-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_decode [hPre_codes_decode : Cert.Pre_codes_decode.Facts] (m : (ℓ : Loc Cert.KernelIdeal.nD Cert.KernelIdeal.τ Cert.KernelIdeal.sig) → Buf (Elt Ideal) ℓ) : Prop :=
  ∀ c : Dev Cert.KernelIdeal.nD,
    (Cert.Pre_codes_decode.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_decode [hPre_codes_decode : Cert.Pre_codes_decode.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_decode.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_codes_decode [hKernelIdeal : Cert.KernelIdeal.Facts] [hPre_codes_decode : Cert.Pre_codes_decode.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_decode m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codes_decode [hReferenceIdeal : Cert.ReferenceIdeal.Facts] [hPre_codes_decode : Cert.Pre_codes_decode.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_decode m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_codes_decode [hKernelIdeal : Cert.KernelIdeal.Facts] [hReferenceIdeal : Cert.ReferenceIdeal.Facts] [hPre_codes_decode : Cert.Pre_codes_decode.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_decode m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_codes_decode : Cert.Pre_codes_decode.Facts),
    quiescent_Kernel (hKernel := hKernel)
    ∧ quiescent_KernelIdeal (hKernelIdeal := hKernelIdeal)
    ∧ quiescent_KernelIdeal_pre_codes_decode (hKernelIdeal := hKernelIdeal) (hPre_codes_decode := hPre_codes_decode)
    ∧ quiescent_ReferenceIdeal (hReferenceIdeal := hReferenceIdeal)
    ∧ quiescent_ReferenceIdeal_pre_codes_decode (hReferenceIdeal := hReferenceIdeal) (hPre_codes_decode := hPre_codes_decode)
    ∧ preserves_Kernel_KernelIdeal
    ∧ algebraic_KernelIdeal_ReferenceIdeal_pre_codes_decode (hKernelIdeal := hKernelIdeal) (hReferenceIdeal := hReferenceIdeal) (hPre_codes_decode := hPre_codes_decode)
-- ==== Pre_codes_decode.lean ====
abbrev S192x1x5120 : Shape := ⟨3, ![192, 1, 5120]⟩
abbrev S8960x5120 : Shape := ⟨2, ![8960, 5120]⟩
abbrev S17920x160 : Shape := ⟨2, ![17920, 160]⟩
abbrev S8960x2x160 : Shape := ⟨3, ![8960, 2, 160]⟩
abbrev S_ : Shape := ⟨0, ![]⟩
abbrev S8960x1x160 : Shape := ⟨3, ![8960, 1, 160]⟩
abbrev S8960x160 : Shape := ⟨2, ![8960, 160]⟩
abbrev S8960x160x32 : Shape := ⟨3, ![8960, 160, 32]⟩

class Facts : Prop where
  shapeCasts_S17920x160_S8960x2x160 : S17920x160.ShapeCasts S8960x2x160
  natLt_8_32 : 8 < 32
  bcast_S_S8960x5120 : S_.BroadcastsInDim S8960x5120 (![] : Fin 0 → Fin S8960x5120.rank)
  slices_S8960x2x160_S8960x1x160_0_0_0 : S8960x2x160.Slices ![0, 0, 0] S8960x1x160
  shapeCasts_S8960x1x160_S8960x160 : S8960x1x160.ShapeCasts S8960x160
  bcast_S8960x160_S8960x160x32_0_1 : S8960x160.BroadcastsInDim S8960x160x32 (![0, 1] : Fin 2 → Fin S8960x160x32.rank)
  shapeCasts_S8960x160x32_S8960x5120 : S8960x160x32.ShapeCasts S8960x5120
  slices_S8960x2x160_S8960x1x160_0_1_0 : S8960x2x160.Slices ![0, 1, 0] S8960x1x160

variable [Facts]

def fn_part3 {F : FTy → Type} [FloatOps F] (main_v29 : IVec S8960x5120 1) (main_v43 : IVec S8960x5120 32) (main_v45 : IVec S8960x5120 1) (main_v53 : IVec S8960x5120 1) (main_c_16 : IVec S_ 32) : IVec S8960x5120 1 :=
  let main_v54 : IVec S8960x5120 32 := broadcastInDim S8960x5120 ![] bcast_S_S8960x5120 main_c_16
  let main_v55 : IVec S8960x5120 1 := cmpi .sle main_v43 main_v54
  let main_v56 : IVec S8960x5120 1 := andi main_v53 main_v55
  let main_v57 : IVec S8960x5120 1 := ori main_v45 main_v56
  let main_v58 : IVec S8960x5120 1 := andi main_v29 main_v57
  main_v58

def fn_part2 {F : FTy → Type} [FloatOps F] (main_v29 : IVec S8960x5120 1) (main_v31 : IVec S8960x5120 32) (main_v36 : IVec S8960x5120 32) (main_c_9 : IVec S_ 32) : IVec S8960x5120 1 :=
  let main_v37 : IVec S8960x5120 32 := broadcastInDim S8960x5120 ![] bcast_S_S8960x5120 main_c_9
  let main_v38 : IVec S8960x5120 32 := andi main_v31 main_v37
  let main_c_10 : IVec S_ 32 := constantI S_ 32 1#32
  let main_v39 : IVec S8960x5120 32 := broadcastInDim S8960x5120 ![] bcast_S_S8960x5120 main_c_10
  let main_v40 : IVec S8960x5120 32 := Host.shrsi main_v38 main_v39
  let main_v41 : IVec S8960x5120 32 := addi main_v36 main_v40
  let main_c_11 : IVec S_ 32 := constantI S_ 32 1#32
  let main_v42 : IVec S8960x5120 32 := broadcastInDim S8960x5120 ![] bcast_S_S8960x5120 main_c_11
  let main_v43 : IVec S8960x5120 32 := subi main_v41 main_v42
  let main_c_12 : IVec S_ 32 := constantI S_ 32 0#32
  let main_v44 : IVec S8960x5120 32 := broadcastInDim S8960x5120 ![] bcast_S_S8960x5120 main_c_12
  let main_v45 : IVec S8960x5120 1 := cmpi .eq main_v38 main_v44
  let main_c_13 : IVec S_ 32 := constantI S_ 32 1#32
  let main_v46 : IVec S8960x5120 32 := broadcastInDim S8960x5120 ![] bcast_S_S8960x5120 main_c_13
  let main_v47 : IVec S8960x5120 1 := cmpi .sge main_v36 main_v46
  let main_c_14 : IVec S_ 32 := constantI S_ 32 254#32
  let main_v48 : IVec S8960x5120 32 := broadcastInDim S8960x5120 ![] bcast_S_S8960x5120 main_c_14
  let main_v49 : IVec S8960x5120 1 := cmpi .sle main_v36 main_v48
  let main_v50 : IVec S8960x5120 1 := andi main_v47 main_v49
  let main_c_15 : IVec S_ 32 := constantI S_ 32 1#32
  let main_v51 : IVec S8960x5120 32 := broadcastInDim S8960x5120 ![] bcast_S_S8960x5120 main_c_15
  let main_v52 : IVec S8960x5120 1 := cmpi .sge main_v43 main_v51
  let main_v53 : IVec S8960x5120 1 := andi main_v50 main_v52
  let main_c_16 : IVec S_ 32 := constantI S_ 32 254#32
  fn_part3 (F := F) main_v29 main_v43 main_v45 main_v53 main_c_16

def fn_part1 {F : FTy → Type} [FloatOps F] (main_v0 : IVec S8960x2x160 8) (main_v1 : IVec S8960x5120 32) (main_v8 : IVec S8960x5120 32) (main_v15 : IVec S8960x5120 32) (main_v17 : IVec S8960x5120 1) (main_c_4 : IVec S_ 32) : IVec S8960x5120 1 :=
  let main_v18 : IVec S8960x5120 32 := broadcastInDim S8960x5120 ![] bcast_S_S8960x5120 main_c_4
  let main_v19 : IVec S8960x5120 1 := cmpi .sge main_v8 main_v18
  let main_c_5 : IVec S_ 32 := constantI S_ 32 254#32
  let main_v20 : IVec S8960x5120 32 := broadcastInDim S8960x5120 ![] bcast_S_S8960x5120 main_c_5
  let main_v21 : IVec S8960x5120 1 := cmpi .sle main_v8 main_v20
  let main_v22 : IVec S8960x5120 1 := andi main_v19 main_v21
  let main_c_6 : IVec S_ 32 := constantI S_ 32 1#32
  let main_v23 : IVec S8960x5120 32 := broadcastInDim S8960x5120 ![] bcast_S_S8960x5120 main_c_6
  let main_v24 : IVec S8960x5120 1 := cmpi .sge main_v15 main_v23
  let main_v25 : IVec S8960x5120 1 := andi main_v22 main_v24
  let main_c_7 : IVec S_ 32 := constantI S_ 32 254#32
  let main_v26 : IVec S8960x5120 32 := broadcastInDim S8960x5120 ![] bcast_S_S8960x5120 main_c_7
  let main_v27 : IVec S8960x5120 1 := cmpi .sle main_v15 main_v26
  let main_v28 : IVec S8960x5120 1 := andi main_v25 main_v27
  let main_v29 : IVec S8960x5120 1 := ori main_v17 main_v28
  let main_c_8 : IVec S_ 32 := constantI S_ 32 4#32
  let main_v30 : IVec S8960x5120 32 := broadcastInDim S8960x5120 ![] bcast_S_S8960x5120 main_c_8
  let main_v31 : IVec S8960x5120 32 := Host.shrsi main_v1 main_v30
  let main_v32 : IVec S8960x1x160 8 := (extractStridedSlice S8960x1x160 ![0, 1, 0] · slices_S8960x2x160_S8960x1x160_0_1_0) main_v0
  let main_v33 : IVec S8960x160 8 := shapeCast S8960x160 main_v32 shapeCasts_S8960x1x160_S8960x160
  let main_v34 : IVec S8960x160x32 8 := broadcastInDim S8960x160x32 ![0, 1] bcast_S8960x160_S8960x160x32_0_1 main_v33
  let main_v35 : IVec S8960x5120 8 := shapeCast S8960x5120 main_v34 shapeCasts_S8960x160x32_S8960x5120
  let main_v36 : IVec S8960x5120 32 := (extui 32 · natLt_8_32) main_v35
  let main_c_9 : IVec S_ 32 := constantI S_ 32 7#32
  fn_part2 (F := F) main_v29 main_v31 main_v36 main_c_9

def fn {F : FTy → Type} [FloatOps F] (main_arg0 : FVec F S192x1x5120 .bf16) (main_arg1 : IVec S8960x5120 8) (main_arg2 : IVec S17920x160 8) : IVec S8960x5120 1 :=
  let main_v0 : IVec S8960x2x160 8 := shapeCast S8960x2x160 main_arg2 shapeCasts_S17920x160_S8960x2x160
  let main_v1 : IVec S8960x5120 32 := (extui 32 · natLt_8_32) main_arg1
  let main_c : IVec S_ 32 := constantI S_ 32 15#32
  let main_v2 : IVec S8960x5120 32 := broadcastInDim S8960x5120 ![] bcast_S_S8960x5120 main_c
  let main_v3 : IVec S8960x5120 32 := andi main_v1 main_v2
  let main_v4 : IVec S8960x1x160 8 := (extractStridedSlice S8960x1x160 ![0, 0, 0] · slices_S8960x2x160_S8960x1x160_0_0_0) main_v0
  let main_v5 : IVec S8960x160 8 := shapeCast S8960x160 main_v4 shapeCasts_S8960x1x160_S8960x160
  let main_v6 : IVec S8960x160x32 8 := broadcastInDim S8960x160x32 ![0, 1] bcast_S8960x160_S8960x160x32_0_1 main_v5
  let main_v7 : IVec S8960x5120 8 := shapeCast S8960x5120 main_v6 shapeCasts_S8960x160x32_S8960x5120
  let main_v8 : IVec S8960x5120 32 := (extui 32 · natLt_8_32) main_v7
  let main_c_0 : IVec S_ 32 := constantI S_ 32 7#32
  let main_v9 : IVec S8960x5120 32 := broadcastInDim S8960x5120 ![] bcast_S_S8960x5120 main_c_0
  let main_v10 : IVec S8960x5120 32 := andi main_v3 main_v9
  let main_c_1 : IVec S_ 32 := constantI S_ 32 1#32
  let main_v11 : IVec S8960x5120 32 := broadcastInDim S8960x5120 ![] bcast_S_S8960x5120 main_c_1
  let main_v12 : IVec S8960x5120 32 := Host.shrsi main_v10 main_v11
  let main_v13 : IVec S8960x5120 32 := addi main_v8 main_v12
  let main_c_2 : IVec S_ 32 := constantI S_ 32 1#32
  let main_v14 : IVec S8960x5120 32 := broadcastInDim S8960x5120 ![] bcast_S_S8960x5120 main_c_2
  let main_v15 : IVec S8960x5120 32 := subi main_v13 main_v14
  let main_c_3 : IVec S_ 32 := constantI S_ 32 0#32
  let main_v16 : IVec S8960x5120 32 := broadcastInDim S8960x5120 ![] bcast_S_S8960x5120 main_c_3
  let main_v17 : IVec S8960x5120 1 := cmpi .eq main_v10 main_v16
  let main_c_4 : IVec S_ 32 := constantI S_ 32 1#32
  fn_part1 (F := F) main_v0 main_v1 main_v8 main_v15 main_v17 main_c_4
-- ==== Kernel.lean ====
abbrev S192x1x5120 : Shape := ⟨3, ![192, 1, 5120]⟩
abbrev S8960x5120 : Shape := ⟨2, ![8960, 5120]⟩
abbrev S17920x160 : Shape := ⟨2, ![17920, 160]⟩
abbrev S192x5120 : Shape := ⟨2, ![192, 5120]⟩
abbrev S160x17920 : Shape := ⟨2, ![160, 17920]⟩
abbrev S192x17920 : Shape := ⟨2, ![192, 17920]⟩
abbrev S256x5120 : Shape := ⟨2, ![256, 5120]⟩
abbrev S160x512 : Shape := ⟨2, ![160, 512]⟩
abbrev S192x512 : Shape := ⟨2, ![192, 512]⟩
abbrev S2x2x4x40x128 : Shape := ⟨5, ![2, 2, 4, 40, 128]⟩
abbrev S40x128 : Shape := ⟨2, ![40, 128]⟩
abbrev S40x512 : Shape := ⟨2, ![40, 512]⟩
abbrev S40x128x1 : Shape := ⟨3, ![40, 128, 1]⟩
abbrev S1x1x1x40x128 : Shape := ⟨5, ![1, 1, 1, 40, 128]⟩
abbrev S192x256 : Shape := ⟨2, ![192, 256]⟩
abbrev S128x256 : Shape := ⟨2, ![128, 256]⟩
abbrev S256x128 : Shape := ⟨2, ![256, 128]⟩
abbrev S1x1x1x1x128 : Shape := ⟨5, ![1, 1, 1, 1, 128]⟩
abbrev S1x128 : Shape := ⟨2, ![1, 128]⟩
abbrev S16x128 : Shape := ⟨2, ![16, 128]⟩
abbrev S32x128 : Shape := ⟨2, ![32, 128]⟩
abbrev S64x128 : Shape := ⟨2, ![64, 128]⟩
abbrev S256x256 : Shape := ⟨2, ![256, 256]⟩
abbrev S192x128 : Shape := ⟨2, ![192, 128]⟩
abbrev S192x128x1 : Shape := ⟨3, ![192, 128, 1]⟩

abbrev nBuf : Space → Nat
  | .hbm => 6
  | .vmem => 8
  | .smem => 0
  | _ => 0

abbrev bufTy : (tb : Table) → Fin (tcTables nBuf tb) → BufTy
  | .hbm, ⟨0, _⟩ => ⟨S192x1x5120, .bf16⟩
  | .hbm, ⟨1, _⟩ => ⟨S8960x5120, .i8⟩
  | .hbm, ⟨2, _⟩ => ⟨S17920x160, .i8⟩
  | .hbm, ⟨3, _⟩ => ⟨S192x5120, .bf16⟩
  | .hbm, ⟨4, _⟩ => ⟨S160x17920, .i8⟩
  | .hbm, ⟨5, _⟩ => ⟨S192x17920, .bf16⟩
  | .local _ .vmem, ⟨0, _⟩ => ⟨S192x5120, .bf16⟩
  | .local _ .vmem, ⟨1, _⟩ => ⟨S256x5120, .i8⟩
  | .local _ .vmem, ⟨2, _⟩ => ⟨S256x5120, .i8⟩
  | .local _ .vmem, ⟨3, _⟩ => ⟨S160x512, .i8⟩
  | .local _ .vmem, ⟨4, _⟩ => ⟨S160x512, .i8⟩
  | .local _ .vmem, ⟨5, _⟩ => ⟨S192x512, .bf16⟩
  | .local _ .vmem, ⟨6, _⟩ => ⟨S192x512, .bf16⟩
  | .local _ .vmem, ⟨7, _⟩ => ⟨S2x2x4x40x128, .i32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x5120 : Shape := ⟨3, ![192, 1, 5120]⟩
abbrev S8960x5120 : Shape := ⟨2, ![8960, 5120]⟩
abbrev S17920x160 : Shape := ⟨2, ![17920, 160]⟩
abbrev S192x5120 : Shape := ⟨2, ![192, 5120]⟩
abbrev S8960x2x160 : Shape := ⟨3, ![8960, 2, 160]⟩
abbrev S_ : Shape := ⟨0, ![]⟩
abbrev S8960x1x160 : Shape := ⟨3, ![8960, 1, 160]⟩
abbrev S8960x160 : Shape := ⟨2, ![8960, 160]⟩
abbrev S8960x160x32 : Shape := ⟨3, ![8960, 160, 32]⟩
abbrev S192x8960 : Shape := ⟨2, ![192, 8960]⟩
abbrev S192x8960x1 : Shape := ⟨3, ![192, 8960, 1]⟩
abbrev S192x8960x2 : Shape := ⟨3, ![192, 8960, 2]⟩
abbrev S192x17920 : Shape := ⟨2, ![192, 17920]⟩

abbrev nBuf : Space → Nat
  | .hbm => 116
  | .vmem => 0
  | .smem => 0
  | _ => 0

abbrev bufTy : (tb : Table) → Fin (tcTables nBuf tb) → BufTy
  | .hbm, ⟨0, _⟩ => ⟨S192x1x5120, .bf16⟩
  | .hbm, ⟨1, _⟩ => ⟨S8960x5120, .i8⟩
  | .hbm, ⟨2, _⟩ => ⟨S17920x160, .i8⟩
  | .hbm, ⟨3, _⟩ => ⟨S192x5120, .bf16⟩
  | .hbm, ⟨4, _⟩ => ⟨S8960x2x160, .i8⟩
  | .hbm, ⟨5, _⟩ => ⟨S8960x5120, .i32⟩
  | .hbm, ⟨6, _⟩ => ⟨S_, .i32⟩
  | .hbm, ⟨7, _⟩ => ⟨S8960x5120, .i32⟩
  | .hbm, ⟨8, _⟩ => ⟨S8960x5120, .i32⟩
  | .hbm, ⟨9, _⟩ => ⟨S_, .i32⟩
  | .hbm, ⟨10, _⟩ => ⟨S8960x5120, .i32⟩
  | .hbm, ⟨11, _⟩ => ⟨S8960x5120, .i32⟩
  | .hbm, ⟨12, _⟩ => ⟨S8960x1x160, .i8⟩
  | .hbm, ⟨13, _⟩ => ⟨S8960x160, .i8⟩
  | .hbm, ⟨14, _⟩ => ⟨S8960x160x32, .i8⟩
  | .hbm, ⟨15, _⟩ => ⟨S8960x5120, .i8⟩
  | .hbm, ⟨16, _⟩ => ⟨S8960x5120, .i32⟩
  | .hbm, ⟨17, _⟩ => ⟨S_, .i32⟩
  | .hbm, ⟨18, _⟩ => ⟨S8960x5120, .i32⟩
  | .hbm, ⟨19, _⟩ => ⟨S8960x5120, .i32⟩
  | .hbm, ⟨20, _⟩ => ⟨S_, .i32⟩
  | .hbm, ⟨21, _⟩ => ⟨S8960x5120, .i32⟩
  | .hbm, ⟨22, _⟩ => ⟨S8960x5120, .i32⟩
  | .hbm, ⟨23, _⟩ => ⟨S_, .i32⟩
  | .hbm, ⟨24, _⟩ => ⟨S8960x5120, .i32⟩
  | .hbm, ⟨25, _⟩ => ⟨S8960x5120, .i1⟩
  | .hbm, ⟨26, _⟩ => ⟨S_, .i32⟩
  | .hbm, ⟨27, _⟩ => ⟨S8960x5120, .i32⟩
  | .hbm, ⟨28, _⟩ => ⟨S8960x5120, .i32⟩
  | .hbm, ⟨29, _⟩ => ⟨S_, .i32⟩
  | .hbm, ⟨30, _⟩ => ⟨S_, .i32⟩
  | .hbm, ⟨31, _⟩ => ⟨S8960x5120, .i32⟩
  | .hbm, ⟨32, _⟩ => ⟨S8960x5120, .i32⟩
  | .hbm, ⟨33, _⟩ => ⟨S8960x5120, .i32⟩
  | .hbm, ⟨34, _⟩ => ⟨S_, .i32⟩
  | .hbm, ⟨35, _⟩ => ⟨S8960x5120, .i32⟩
  | .hbm, ⟨36, _⟩ => ⟨S8960x5120, .i32⟩
  | .hbm, ⟨37, _⟩ => ⟨S_, .i32⟩
  | .hbm, ⟨38, _⟩ => ⟨S8960x5120, .i32⟩
  | .hbm, ⟨39, _⟩ => ⟨S8960x5120, .i1⟩
  | .hbm, ⟨40, _⟩ => ⟨S_, .i32⟩
  | .hbm, ⟨41, _⟩ => ⟨S8960x5120, .i32⟩
  | .hbm, ⟨42, _⟩ => ⟨S8960x5120, .i32⟩
  | .hbm, ⟨43, _⟩ => ⟨S_, .i32⟩
  | .hbm, ⟨44, _⟩ => ⟨S8960x5120, .i32⟩
  | .hbm, ⟨45, _⟩ => ⟨S8960x5120, .i32⟩
  | .hbm, ⟨46, _⟩ => ⟨S8960x5120, .i32⟩
  | .hbm, ⟨47, _⟩ => ⟨S_, .i32⟩
  | .hbm, ⟨48, _⟩ => ⟨S_, .i32⟩
  | .hbm, ⟨49, _⟩ => ⟨S8960x5120, .i32⟩
  | .hbm, ⟨50, _⟩ => ⟨S8960x5120, .i32⟩
  | .hbm, ⟨51, _⟩ => ⟨S_, .i32⟩
  | .hbm, ⟨52, _⟩ => ⟨S8960x5120, .i32⟩
  | .hbm, ⟨53, _⟩ => ⟨S8960x5120, .i32⟩
  | .hbm, ⟨54, _⟩ => ⟨S_, .i32⟩
  | .hbm, ⟨55, _⟩ => ⟨S8960x5120, .i32⟩
  | .hbm, ⟨56, _⟩ => ⟨S8960x5120, .i32⟩
  | .hbm, ⟨57, _⟩ => ⟨S8960x5120, .i32⟩
  | .hbm, ⟨58, _⟩ => ⟨S8960x5120, .i16⟩
  | .hbm, ⟨59, _⟩ => ⟨S8960x5120, .bf16⟩
  | .hbm, ⟨60, _⟩ => ⟨S8960x1x160, .i8⟩
  | .hbm, ⟨61, _⟩ => ⟨S8960x160, .i8⟩
  | .hbm, ⟨62, _⟩ => ⟨S8960x160x32, .i8⟩
  | .hbm, ⟨63, _⟩ => ⟨S8960x5120, .i8⟩
  | .hbm, ⟨64, _⟩ => ⟨S8960x5120, .i32⟩
  | .hbm, ⟨65, _⟩ => ⟨S_, .i32⟩
  | .hbm, ⟨66, _⟩ => ⟨S8960x5120, .i32⟩
  | .hbm, ⟨67, _⟩ => ⟨S8960x5120, .i32⟩
  | .hbm, ⟨68, _⟩ => ⟨S_, .i32⟩
  | .hbm, ⟨69, _⟩ => ⟨S8960x5120, .i32⟩
  | .hbm, ⟨70, _⟩ => ⟨S8960x5120, .i32⟩
  | .hbm, ⟨71, _⟩ => ⟨S_, .i32⟩
  | .hbm, ⟨72, _⟩ => ⟨S8960x5120, .i32⟩
  | .hbm, ⟨73, _⟩ => ⟨S8960x5120, .i1⟩
  | .hbm, ⟨74, _⟩ => ⟨S_, .i32⟩
  | .hbm, ⟨75, _⟩ => ⟨S8960x5120, .i32⟩
  | .hbm, ⟨76, _⟩ => ⟨S8960x5120, .i32⟩
  | .hbm, ⟨77, _⟩ => ⟨S_, .i32⟩
  | .hbm, ⟨78, _⟩ => ⟨S_, .i32⟩
  | .hbm, ⟨79, _⟩ => ⟨S8960x5120, .i32⟩
  | .hbm, ⟨80, _⟩ => ⟨S8960x5120, .i32⟩
  | .hbm, ⟨81, _⟩ => ⟨S8960x5120, .i32⟩
  | .hbm, ⟨82, _⟩ => ⟨S_, .i32⟩
  | .hbm, ⟨83, _⟩ => ⟨S8960x5120, .i32⟩
  | .hbm, ⟨84, _⟩ => ⟨S8960x5120, .i32⟩
  | .hbm, ⟨85, _⟩ => ⟨S_, .i32⟩
  | .hbm, ⟨86, _⟩ => ⟨S8960x5120, .i32⟩
  | .hbm, ⟨87, _⟩ => ⟨S8960x5120, .i1⟩
  | .hbm, ⟨88, _⟩ => ⟨S_, .i32⟩
  | .hbm, ⟨89, _⟩ => ⟨S8960x5120, .i32⟩
  | .hbm, ⟨90, _⟩ => ⟨S8960x5120, .i32⟩
  | .hbm, ⟨91, _⟩ => ⟨S_, .i32⟩
  | .hbm, ⟨92, _⟩ => ⟨S8960x5120, .i32⟩
  | .hbm, ⟨93, _⟩ => ⟨S8960x5120, .i32⟩
  | .hbm, ⟨94, _⟩ => ⟨S8960x5120, .i32⟩
  | .hbm, ⟨95, _⟩ => ⟨S_, .i32⟩
  | .hbm, ⟨96, _⟩ => ⟨S_, .i32⟩
  | .hbm, ⟨97, _⟩ => ⟨S8960x5120, .i32⟩
  | .hbm, ⟨98, _⟩ => ⟨S8960x5120, .i32⟩
  | .hbm, ⟨99, _⟩ => ⟨S_, .i32⟩
  | .hbm, ⟨100, _⟩ => ⟨S8960x5120, .i32⟩
  | .hbm, ⟨101, _⟩ => ⟨S8960x5120, .i32⟩
  | .hbm, ⟨102, _⟩ => ⟨S_, .i32⟩
  | .hbm, ⟨103, _⟩ => ⟨S8960x5120, .i32⟩
  | .hbm, ⟨104, _⟩ => ⟨S8960x5120, .i32⟩
  | .hbm, ⟨105, _⟩ => ⟨S8960x5120, .i32⟩
  | .hbm, ⟨106, _⟩ => ⟨S8960x5120, .i16⟩
  | .hbm, ⟨107, _⟩ => ⟨S8960x5120, .bf16⟩
  | .hbm, ⟨108, _⟩ => ⟨S192x8960, .f32⟩
  | .hbm, ⟨109, _⟩ => ⟨S192x8960, .bf16⟩
  | .hbm, ⟨110, _⟩ => ⟨S192x8960, .f32⟩
  | .hbm, ⟨111, _⟩ => ⟨S192x8960, .bf16⟩
  | .hbm, ⟨112, _⟩ => ⟨S192x8960x1, .bf16⟩
  | .hbm, ⟨113, _⟩ => ⟨S192x8960x1, .bf16⟩
  | .hbm, ⟨114, _⟩ => ⟨S192x8960x2, .bf16⟩
  | .hbm, ⟨115, _⟩ => ⟨S192x17920, .bf16⟩
  | _, _ => ⟨S192x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_c_11 : Ref sig .tc := ⟨.hbm, 51, rfl⟩
abbrev main_v32 : Ref sig .tc := ⟨.hbm, 52, rfl⟩
abbrev main_v33 : Ref sig .tc := ⟨.hbm, 53, rfl⟩
abbrev main_c_12 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_13 : Ref sig .tc := ⟨.hbm, 65, rfl⟩
abbrev main_v44 : Ref sig .tc := ⟨.hbm, 66, rfl⟩
abbrev main_v45 : Ref sig .tc := ⟨.hbm, 67, rfl⟩
abbrev main_c_14 : Ref sig .tc := ⟨.hbm, 68, rfl⟩
abbrev main_v46 : Ref sig .tc := ⟨.hbm, 69, rfl⟩
abbrev main_v47 : Ref sig .tc := ⟨.hbm, 70, rfl⟩
abbrev main_c_15 : Ref sig .tc := ⟨.hbm, 71, rfl⟩
abbrev main_v48 : Ref sig .tc := ⟨.hbm, 72, rfl⟩
abbrev main_v49 : Ref sig .tc := ⟨.hbm, 73, rfl⟩
abbrev main_c_16 : Ref sig .tc := ⟨.hbm, 74, rfl⟩
abbrev main_v50 : Ref sig .tc := ⟨.hbm, 75, rfl⟩
abbrev main_v51 : Ref sig .tc := ⟨.hbm, 76, rfl⟩
abbrev main_c_17 : Ref sig .tc := ⟨.hbm, 77, rfl⟩
abbrev main_call2_v0 : Ref sig .tc := ⟨.hbm, 78, rfl⟩
abbrev main_call2_v1 : Ref sig .tc := ⟨.hbm, 79, rfl⟩
abbrev main_v52 : Ref sig .tc := ⟨.hbm, 80, rfl⟩
abbrev main_v53 : Ref sig .tc := ⟨.hbm, 81, rfl⟩
abbrev main_c_18 : Ref sig .tc := ⟨.hbm, 82, rfl⟩
abbrev main_v54 : Ref sig .tc := ⟨.hbm, 83, rfl⟩
abbrev main_v55 : Ref sig .tc := ⟨.hbm, 84, rfl⟩
abbrev main_c_19 : Ref sig .tc := ⟨.hbm, 85, rfl⟩
abbrev main_v56 : Ref sig .tc := ⟨.hbm, 86, rfl⟩
abbrev main_v57 : Ref sig .tc := ⟨.hbm, 87, rfl⟩
abbrev main_c_20 : Ref sig .tc := ⟨.hbm, 88, rfl⟩
abbrev main_v58 : Ref sig .tc := ⟨.hbm, 89, rfl⟩
abbrev main_v59 : Ref sig .tc := ⟨.hbm, 90, rfl⟩
abbrev main_c_21 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_22 : Ref sig .tc := ⟨.hbm, 95, rfl⟩
abbrev main_call3_v0 : Ref sig .tc := ⟨.hbm, 96, rfl⟩
abbrev main_call3_v1 : Ref sig .tc := ⟨.hbm, 97, rfl⟩
abbrev main_v63 : Ref sig .tc := ⟨.hbm, 98, rfl⟩
abbrev main_c_23 : Ref sig .tc := ⟨.hbm, 99, rfl⟩
abbrev main_v64 : Ref sig .tc := ⟨.hbm, 100, rfl⟩
abbrev main_v65 : Ref sig .tc := ⟨.hbm, 101, rfl⟩
abbrev main_c_24 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Proof.Decode.lean ====
/- The four-bit code's value times its block's scale is the number whose bits the reference puts together.

   The kernel turns a code into a signed number with integer arithmetic (`codeVec`) and multiplies it by the power of two
   whose bfloat16 bits are the scale shifted into the exponent. The reference adds the code's exponent to the scale and
   shifts that into the exponent field (`refBits`). Where a code is a zero, or the scale and the exponent field are
   those of normal numbers, the two are the same real number (`codeVal_mul_scale`): sixteen codes, the scale kept a
   variable. -/
module

public import Idealize.ShloMosaic.PureOps
public import Idealize.ShloMosaic.Lib.IdealHost

@[expose] public section

noncomputable section

namespace Cert.Decode

open Idealize.ShloMosaic

/-- The kernel's decoding of a vector of codes, each already a signed 32-bit number from -8 to 7. -/
def codeVec {F : FTy → Type} [FloatOps F] {s : Shape} (n : IVec s 32) : FVec F s .bf16 :=
  let m := andi n (broadcast s 7#32)
  let d := select (cmpi .slt m (broadcast s 4#32)) m
    (select (cmpi .slt m (broadcast s 6#32)) (subi (muli (broadcast s 2#32) m) (broadcast s 4#32))
      (subi (muli (broadcast s 4#32) m) (broadcast s 16#32)))
  let mag : FVec F s .f32 := mulf (sitofp .f32 d) (broadcast s (Scalar.ofBits .f32 0x3F000000#32))
  truncf .bf16 (select (cmpi .slt n (broadcast s 0#32)) (subf (broadcast s (Scalar.ofBits .f32 0x00000000#32)) mag) mag)
    (by decide)

/-- The reference's bits of a code `c` (0 to 15) under the scale `s`, as the 32-bit word they are put together in. -/
def refBits (c s : BitVec 32) : BitVec 32 :=
  let m := c &&& 7#32
  let e := m.sshiftRight 1
  let mant := if (1#32).slt m then m &&& 1#32 else 0#32
  (if m = 0#32 then 0#32 else ((s + e - 1#32) <<< 7) ||| (mant <<< 6)) ||| ((c &&& 8#32) <<< 12)

/-- The decoding reads one element at a time. -/
theorem codeVec_apply {s t : Shape} (n : IVec s 32) (i : s.Idx) (j : t.Idx) :
    codeVec (F := Ideal) n i = codeVec (F := Ideal) (s := t) (fun _ => n i) j := rfl

/-- The value of a four-bit code. -/
def codeVal (v : BitVec 4) : EReal := codeVec (F := Ideal) (s := ⟨0, ![]⟩) (fun _ => v.signExtend 32) (fun a => a.elim0)

/-- Twice a code's magnitude: 0, 1, 2, 3, 4, 6, 8, 12 for the low three bits from 0 to 7. -/
def dbl (v : BitVec 4) : ℕ :=
  if (v &&& 7#4).toNat < 4 then (v &&& 7#4).toNat
  else if (v &&& 7#4).toNat < 6 then 2 * (v &&& 7#4).toNat - 4 else 4 * (v &&& 7#4).toNat - 16

/-- A four-bit code's value as a real number. -/
def codeReal (v : BitVec 4) : ℝ := (if v.getLsbD 3 then -1 else 1) * dbl v / 2

/-- Twice the magnitude, in the kernel's 32-bit arithmetic. -/
def dblWord (n : BitVec 32) : BitVec 32 :=
  Scalar.select (IntOp.cmpi .slt (IntOp.andi n 7#32) 4#32) (IntOp.andi n 7#32)
    (Scalar.select (IntOp.cmpi .slt (IntOp.andi n 7#32) 6#32) (IntOp.subi (IntOp.muli 2#32 (IntOp.andi n 7#32)) 4#32)
      (IntOp.subi (IntOp.muli 4#32 (IntOp.andi n 7#32)) 16#32))

theorem dblWord_toInt : ∀ v : BitVec 4, (dblWord (v.signExtend 32)).toInt = (dbl v : ℤ) := by decide +kernel

theorem neg_iff : ∀ v : BitVec 4, IntOp.cmpi .slt (v.signExtend 32) 0#32 = if v.getLsbD 3 then 1#1 else 0#1 := by
  decide +kernel

theorem codeVal_eq (v : BitVec 4) : codeVal v = ((codeReal v : ℝ) : EReal) := by
  have h : Ideal.ofBits .f32 0x3F000000#32 = ((1 / 2 : ℝ) : EReal) := by
    simp [Ideal.ofBits, Ideal.ieee, -EReal.coe_mul]; norm_num
  have e : codeVal v = Scalar.select (IntOp.cmpi .slt (v.signExtend 32) 0#32)
      (Ideal.ofBits .f32 0x00000000#32
        - ((((dblWord (v.signExtend 32)).toInt : ℝ) : EReal) * Ideal.ofBits .f32 0x3F000000#32))
      ((((dblWord (v.signExtend 32)).toInt : ℝ) : EReal) * Ideal.ofBits .f32 0x3F000000#32) := rfl
  rw [e, h, dblWord_toInt, neg_iff, Ideal.ofBits_zero_f32, ← EReal.coe_mul, ← EReal.coe_zero, ← EReal.coe_sub]
  unfold Scalar.select codeReal
  by_cases hs : v.getLsbD 3 = true
  · rw [if_pos hs, if_pos (by decide), if_pos hs]
    congr 1
    push_cast
    ring
  · rw [if_neg hs, if_neg (by decide), if_neg hs]
    congr 1
    push_cast
    ring

/-- The scale's power of two: its bits shifted into a bfloat16's exponent field. -/
theorem ofBits_scale (t : BitVec 8) (h0 : 1 ≤ t.toNat) (h1 : t.toNat ≤ 254) :
    Ideal.ofBits .bf16 ((t.setWidth 16) <<< 7) = (((2 : ℝ) ^ ((t.toNat : Int) - 127) : ℝ) : EReal) := by
  have he : ∀ t : BitVec 8, ((t.setWidth 16) <<< 7).extractLsb' 7 8 = t := by decide +kernel
  have hf : ∀ t : BitVec 8, ((t.setWidth 16) <<< 7).extractLsb' 0 7 = 0#7 := by decide +kernel
  have hs : ∀ t : BitVec 8, (((t.setWidth 16) <<< 7).extractLsb' 15 1 == 1#1) = false := by decide +kernel
  show Ideal.ieee 8 7 _ = _
  simp only [Ideal.ieee, he, hf, hs]
  rw [if_neg (by omega), if_neg (by omega)]
  congr 1
  norm_num
  rw [show (128 : ℝ) = 2 ^ (7 : ℤ) by norm_num, ← zpow_add₀ (by norm_num)]
  congr 1
  ring

/-- A code and its scale decode: a zero under any scale, else the scale and the sum of exponents from 1 to 254. -/
def Decodes (v : BitVec 4) (t : BitVec 8) : Prop :=
  v &&& 7#4 = 0#4 ∨ (1 ≤ t.toNat ∧ t.toNat ≤ 254 ∧ 2 ≤ t.toNat + (v &&& 7#4).toNat / 2 ∧ t.toNat + (v &&& 7#4).toNat / 2 ≤ 255)

instance (v : BitVec 4) (t : BitVec 8) : Decidable (Decodes v t) := by unfold Decodes; infer_instance

/-- The fields of the reference's bits of a code that is not zero: sign, exponent and fraction. -/
theorem refBits_fields : ∀ (v : BitVec 4) (t : BitVec 8), Decodes v t ∧ v &&& 7#4 ≠ 0#4 →
    let b := (refBits (v.setWidth 32) (t.setWidth 32)).setWidth 16
    (b.extractLsb' 7 8).toNat = t.toNat + (v &&& 7#4).toNat / 2 - 1
    ∧ (b.extractLsb' 0 7).toNat = (if 1 < (v &&& 7#4).toNat then (v &&& 1#4).toNat * 64 else 0)
    ∧ (b.extractLsb' 15 1 == 1#1) = v.getLsbD 3 := by
  decide +kernel

/-- A code times its scale is the number the reference's bits denote. -/
theorem codeVal_mul_scale (v : BitVec 4) (t : BitVec 8) (h : Decodes v t) :
    codeVal v * Ideal.ofBits .bf16 ((t.setWidth 16) <<< 7)
      = Ideal.ofBits .bf16 ((refBits (v.setWidth 32) (t.setWidth 32)).setWidth 16) := by
  by_cases hm : v &&& 7#4 = 0#4
  · have hz : ∀ (v : BitVec 4) (t : BitVec 8), v &&& 7#4 = 0#4 →
        let b := (refBits (v.setWidth 32) (t.setWidth 32)).setWidth 16
        (b.extractLsb' 7 8).toNat = 0 ∧ (b.extractLsb' 0 7).toNat = 0 := by decide +kernel
    obtain ⟨z0, z1⟩ := hz v t hm
    have hv : codeVal v = 0 := by
      rw [codeVal_eq]
      simp [codeReal, dbl, hm]
    rw [hv, zero_mul]
    show _ = Ideal.ieee 8 7 _
    simp only [Ideal.ieee, z0, z1]
    simp
  · obtain ⟨f0, f1, f2⟩ := refBits_fields v t ⟨h, hm⟩
    obtain ⟨h0, h1, h2, h3⟩ := h.resolve_left hm
    rw [codeVal_eq, ofBits_scale t h0 h1, ← EReal.coe_mul]
    show _ = Ideal.ieee 8 7 _
    have hlt : (v &&& 7#4).toNat < 8 := by
      have : ∀ v : BitVec 4, (v &&& 7#4).toNat < 8 := by decide
      exact this v
    have hpos : (v &&& 7#4).toNat ≠ 0 := fun h => hm (BitVec.eq_of_toNat_eq (by simpa using h))
    have h1b : (v &&& 1#4).toNat = (v &&& 7#4).toNat % 2 := by
      have : ∀ v : BitVec 4, (v &&& 1#4).toNat = (v &&& 7#4).toNat % 2 := by decide
      exact this v
    simp only [Ideal.ieee, f0, f1, f2, h1b, codeReal, dbl]
    generalize (v &&& 7#4).toNat = k at *
    generalize t.toNat = s at *
    rw [if_neg (show ¬ s + k / 2 - 1 = 2 ^ 8 - 1 by clear f0 f1 f2; omega),
      if_neg (show ¬ s + k / 2 - 1 = 0 by clear f0 f1 f2; omega)]
    congr 1
    generalize (if v.getLsbD 3 = true then (-1 : ℝ) else 1) = g
    have hz (e : ℕ) (he : 1 ≤ s + e) : (2 : ℝ) ^ (((s + e - 1 : ℕ) : ℤ) - (2 ^ (8 - 1) - 1) - (7 : ℕ))
        = (2 : ℝ) ^ ((s : ℤ) - 127) * 2 ^ e / 256 := by
      rw [show (256 : ℝ) = 2 ^ (8 : ℤ) by norm_num, ← zpow_natCast (2 : ℝ) e, ← zpow_add₀ (by norm_num),
        ← zpow_sub₀ (by norm_num)]
      congr 1
      push_cast [Nat.cast_sub he]
      ring
    rw [hz (k / 2) (by omega)]
    generalize (2 : ℝ) ^ ((s : ℤ) - 127) = p
    have hk : 1 ≤ k := Nat.one_le_iff_ne_zero.mpr hpos
    clear f0 f1 f2 hpos hz
    interval_cases k <;> norm_num <;> ring

end Cert.Decode

end
-- ==== Proof.Tile.lean ====
/- One grid point of the kernel, said once per repeated piece.

   The kernel's body is unrolled: twenty tiles of the contraction axis, two halves of the block's code rows, two nibbles,
   eight scale blocks. Here each repeated piece is one definition with its position as an argument, and the values the
   run names are shown to be those definitions at their positions. -/
module

public import proofs.«01_k».proof.Proof.Gen.KernelIdeal.Value
public import proofs.«01_k».proof.Proof.Decode

@[expose] public section

set_option maxRecDepth 16384

noncomputable section

namespace Cert.KernelIdeal.Tile

open Cert.KernelIdeal Cert.KernelIdeal.Gen Cert.Decode Idealize.ShloMosaic Idealize.SL.Sem

variable {F : FTy → Type} [FloatOps F]

/-! ## The weights of one tile -/

/-- The scales of one block of 32 rows: each word of the row carries its bfloat16 twice. -/
def scaleTile (row : Vec F S1x1x1x1x128 .i32) : FVec F S32x128 .bf16 :=
  bitcastToFloat .bf16 (bitcast S32x128 16 (broadcastTo S16x128
    (shapeCast S1x128 (shapeCast S1x128 row shapeCasts_S1x1x1x1x128_S1x128) shapeCasts_S1x128_S1x128)
    broadcasts_S1x128_S16x128) bitcasts_S16x128_w32_S32x128_w16)

/-- The codes of a tile, the contraction axis first. -/
def codesT (c : Vec F S128x256 .i8) : IVec S256x128 8 :=
  transpose S256x128 [1, 0] c transposes_S128x256_p1_0_S256x128

/-- The low nibbles' numbers. -/
def low (c : Vec F S128x256 .i8) : FVec F S256x128 .bf16 :=
  codeVec (extsi 32 (trunci 4 (codesT (F := F) c) natLt_4_8) natLt_4_32)

/-- The codes shifted right by a nibble, four codes to a word. -/
def shifted (c : Vec F S128x256 .i8) : IVec S256x128 8 :=
  bitcast S256x128 8 (shrui (bitcast S64x128 32 (codesT (F := F) c) bitcasts_S256x128_w8_S64x128_w32)
    (broadcast S64x128 4#32)) bitcasts_S64x128_w32_S256x128_w8

/-- The high nibbles' numbers. -/
def high (c : Vec F S128x256 .i8) : FVec F S256x128 .bf16 :=
  codeVec (extsi 32 (trunci 4 (shifted (F := F) c) natLt_4_8) natLt_4_32)

theorem slices (j : Fin 8) : S256x128.Slices ![32 * j.val, 0] S32x128 := by
  revert j; decide

/-- The scaled numbers of one nibble: block `j` of 32 rows by scale row `s j`. -/
def col (w : FVec F S256x128 .bf16) (s : Fin 8 → Vec F S1x1x1x1x128 .i32) : FVec F S256x128 .bf16 :=
  concatenate S256x128 0 (List.ofFn fun j : Fin 8 => (⟨S32x128, mulf
      (extractStridedSlice S32x128 ![32 * j.val, 0] w (slices j)) (scaleTile (s j))⟩ : Σ s : Shape, FVec F s .bf16))
    concatenates_S32x128_S32x128_S32x128_S32x128_S32x128_S32x128_S32x128_S32x128_S256x128_d0

/-- The tile's weights: the low nibbles' columns, then the high nibbles'. -/
def weights (c : Vec F S128x256 .i8) (s : Fin 2 → Fin 8 → Vec F S1x1x1x1x128 .i32) : FVec F S256x256 .bf16 :=
  concatenate S256x256 1 [⟨S256x128, col (low c) (s 0)⟩, ⟨S256x128, col (high c) (s 1)⟩]
    concatenates_S256x128_S256x128_S256x256_d1

/-- One tile's contribution added. -/
def step (acc : FVec F S192x256 .f32) (x : Vec F S192x256 .bf16) (c : Vec F S128x256 .i8)
    (s : Fin 2 → Fin 8 → Vec F S1x1x1x1x128 .i32) : FVec F S192x256 .f32 :=
  addf acc (matmul dot_S192x256_S256x256_S192x256_1_0_0_1_n_n none (shapeCast S192x256 x shapeCasts_S192x256_S192x256)
    (weights c s) (constant S192x256 .f32 0x00000000#32))

/-! ## The tiles' positions -/

theorem inbX (k : Fin 20) : ∀ a, (![0, 256 * k.val] : Fin 2 → ℕ) a + S192x256.size a ≤ S192x5120.size a := by
  revert k; decide

theorem inbC (h : Fin 2) (k : Fin 20) :
    ∀ a, (![128 * h.val, 256 * k.val] : Fin 2 → ℕ) a + S128x256.size a ≤ S256x5120.size a := by
  revert h k; decide

theorem inbS (h p : Fin 2) (k : Fin 20) (j : Fin 8) :
    ∀ a, (![h.val, p.val, (8 * k.val + j.val) % 4, (8 * k.val + j.val) / 4, 0] : Fin 5 → ℕ) a + S1x1x1x1x128.size a
      ≤ S2x2x4x40x128.size a := by
  revert h p k j; decide +kernel

section Run

variable (c : Dev nD) (arg1 : Memref sig .tc .vmem S192x5120 .bf16) (harg1 : arg1.IsWhole)
  (arg2 : Memref sig .tc .vmem S256x5120 .i8) (harg2 : arg2.IsWhole)
  (arg3 : Memref sig .tc .vmem S160x512 .i8) (harg3 : arg3.IsWhole)
  (arg5 : Memref sig .tc .vmem S2x2x4x40x128 .i32)
  (x0 : Vec F S192x5120 .bf16) (x1 : Vec F S256x5120 .i8) (x2 : Vec F S160x512 .i8)

/-- Tile `k` of the activations. -/
def xTile (k : Fin 20) : Vec F S192x256 .bf16 :=
  View.readAt (Elt F) arg1.view (Rect.unit (s := S192x5120) ![0, 256 * k.val] S192x256.size (inbX k)).toLoadRect (harg1.unread x0)

/-- Tile `k` of half `h` of the block's code rows. -/
def cTile (h : Fin 2) (k : Fin 20) : Vec F S128x256 .i8 :=
  View.readAt (Elt F) arg2.view (Rect.unit (s := S256x5120) ![128 * h.val, 256 * k.val] S128x256.size (inbC h k)).toLoadRect
    (harg2.unread x1)

/-- The prepared scale row of block `j` of tile `k`. -/
def sRow (h p : Fin 2) (k : Fin 20) (j : Fin 8) : Vec F S1x1x1x1x128 .i32 :=
  arg5.view.readCov (kernelRun0_A.sl.HS0_16 c arg3 harg3 x2)
    (Rect.unit (s := S2x2x4x40x128) ![h.val, p.val, (8 * k.val + j.val) % 4, (8 * k.val + j.val) / 4, 0] S1x1x1x1x128.size
      (inbS h p k j)).toLoadRect

/-- Half `h`'s accumulator after `n` tiles. -/
def acc (h : Fin 2) : (n : ℕ) → n ≤ 20 → FVec F S192x256 .f32
  | 0, _ => broadcast S192x256 (Scalar.ofBits .f32 0x00000000#32)
  | n + 1, hn => step (acc h n (Nat.le_of_succ_le hn)) (xTile arg1 harg1 x0 ⟨n, hn⟩) (cTile arg2 harg2 x1 h ⟨n, hn⟩)
      (fun p j => sRow c arg3 harg3 arg5 x2 h p ⟨n, hn⟩ j)

theorem acc0_eq : kernelRun0_A.sl.r_831 c arg1 harg1 arg2 harg2 arg3 harg3 arg5 x0 x1 x2
    = acc c arg1 harg1 arg2 harg2 arg3 harg3 arg5 x0 x1 x2 0 20 le_rfl := by
  sl_kernel_rfl

theorem acc1_eq : kernelRun0_A.sl.r_849 c arg1 harg1 arg2 harg2 arg3 harg3 arg5 x0 x1 x2
    = acc c arg1 harg1 arg2 harg2 arg3 harg3 arg5 x0 x1 x2 1 20 le_rfl := by
  sl_kernel_rfl

end Run

end Cert.KernelIdeal.Tile
-- ==== Proof.Scales.lean ====
/- The prepared scales: which scale byte each lane of each prepared row carries. -/
module

public import proofs.«01_k».proof.Proof.Tile
public import Idealize.ShloMosaic.Lib.Pointwise
public import Idealize.ShloMosaic.Lib.Pointwise.IndexBridge
public import Idealize.ShloMosaic.Lib.BitcastFour
public import Idealize.ShloMosaic.Lib.WholeRead

@[expose] public section

set_option maxRecDepth 16384

noncomputable section

namespace Cert.KernelIdeal.Scales

open Cert.KernelIdeal Cert.KernelIdeal.Gen Idealize.ShloMosaic Idealize.SL.Sem

variable {F : FTy → Type} [FloatOps F]

/-- The scale bytes, four rows to a word. -/
def words (x : Vec F S160x512 .i8) : IVec S40x512 32 :=
  bitcast S40x512 32 (shapeCast S160x512 x shapeCasts_S160x512_S160x512) bitcasts_S160x512_w8_S40x512_w32

/-- The lane read for nibble `p`: twice the lane, and `p`, inside 128 lanes. -/
def base (p : Fin 2) : IVec S40x128 32 :=
  addi (andi (muli (broadcast S40x128 2#32) (iota .tc S40x128 32 [1] iota_S40x128_d1_w32)) (broadcast S40x128 127#32))
    (broadcast S40x128 (BitVec.ofNat 32 p.val))

def lanes (p : Fin 2) : IVec S40x128 32 :=
  shapeCast S40x128 (shapeCast S40x128x1 (select (cmpi .slt (base p) (broadcast S40x128 0#32))
    (addi (base p) (broadcast S40x128 128#32)) (base p)) shapeCasts_S40x128_S40x128x1) shapeCasts_S40x128x1_S40x128

theorem slicesLo (h : Fin 2) : S40x512.Slices ![0, 256 * h.val] S40x128 := by revert h; decide
theorem slicesHi (h : Fin 2) : S40x512.Slices ![0, 256 * h.val + 128] S40x128 := by revert h; decide

/-- The words of nibble `p` in half `h`: the first 64 lanes from the half's first 128 columns, the others from its last. -/
def picked (w : IVec S40x512 32) (h p : Fin 2) : IVec S40x128 32 :=
  select (cmpi .slt (iota .tc S40x128 32 [1] iota_S40x128_d1_w32) (broadcast S40x128 64#32))
    (dynamicGather 1 (extractStridedSlice S40x128 ![0, 256 * h.val] w (slicesLo h)) (lanes p))
    (dynamicGather 1 (extractStridedSlice S40x128 ![0, 256 * h.val + 128] w (slicesHi h)) (lanes p))

/-- Byte `j` of a word. -/
def byteOf (v : IVec S40x128 32) (j : Fin 4) : IVec S40x128 32 :=
  andi (shrui v (broadcast S40x128 (BitVec.ofNat 32 (8 * j.val)))) (broadcast S40x128 255#32)

/-- The piece stored at `(h, p, j)`: each byte shifted to the exponent of both halves of its word. -/
def piece (x : Vec F S160x512 .i8) (h p : Fin 2) (j : Fin 4) : IVec S1x1x1x40x128 32 :=
  shapeCast S1x1x1x40x128 (ori (shli (byteOf (picked (words (F := F) x) h p) j) (broadcast S40x128 7#32))
    (shli (byteOf (picked (words (F := F) x) h p) j) (broadcast S40x128 23#32))) shapeCasts_S40x128_S1x1x1x40x128

theorem inbP (h p : Fin 2) (j : Fin 4) :
    ∀ a, (![h.val, p.val, j.val, 0, 0] : Fin 5 → ℕ) a + S1x1x1x40x128.size a ≤ S2x2x4x40x128.size a := by
  revert h p j; decide

/-- The place of the piece stored `n`-th from the last. -/
def hOf (n : Fin 16) : Fin 2 := ⟨(15 - n.val) / 8, by omega⟩
def pOf (n : Fin 16) : Fin 2 := ⟨(15 - n.val) / 4 % 2, by omega⟩
def jOf (n : Fin 16) : Fin 4 := ⟨(15 - n.val) % 4, by omega⟩

/-- A scale byte in the exponent of both halves of a word. -/
def dup (b : BitVec 8) : BitVec 32 := (b.setWidth 32) <<< 7 ||| (b.setWidth 32) <<< 23

variable (c : Dev nD) (arg3 : Memref sig .tc .vmem S160x512 .i8) (harg3 : arg3.IsWhole)
  (arg5 : Memref sig .tc .vmem S2x2x4x40x128 .i32) (x2 : Vec F S160x512 .i8)

theorem pieces_eq : kernelRun0_A.sl.HS0_16 c arg3 harg3 x2 = List.ofFn fun n : Fin 16 =>
    (⟨Rect.unit (s := S2x2x4x40x128) ![(hOf n).val, (pOf n).val, (jOf n).val, 0, 0] S1x1x1x40x128.size (inbP (hOf n) (pOf n) (jOf n)),
      piece (View.readAt (Elt F) arg3.view (Rect.unit (s := S160x512) ![0, 0] S160x512.size inb_S160x512_S160x512_0_0).toLoadRect
        (harg3.unread x2)) (hOf n) (pOf n) (jOf n)⟩ : View.Piece (Elt F) S2x2x4x40x128 .i32) := by
  sl_kernel_rfl

theorem lanes_toNat (p : Fin 2) (r : Fin 40) (l : Fin 128) : (lanes p (ix2 r l)).toNat % 128 = (2 * l.val + p.val) % 128 := by
  have key : ∀ (l : Fin 128) (p : Fin 2), (Scalar.select (IntOp.cmpi .slt (IntOp.addi (IntOp.andi (IntOp.muli 2#32 (BitVec.ofNat 32 l.val)) 127#32) (BitVec.ofNat 32 p.val)) 0#32)
      (IntOp.addi (IntOp.addi (IntOp.andi (IntOp.muli 2#32 (BitVec.ofNat 32 l.val)) 127#32) (BitVec.ofNat 32 p.val)) 128#32)
      (IntOp.addi (IntOp.andi (IntOp.muli 2#32 (BitVec.ofNat 32 l.val)) 127#32) (BitVec.ofNat 32 p.val))).toNat % 128 = (2 * l.val + p.val) % 128 := by
    decide +kernel
  rw [← key l p]
  pointwise [lanes, base]

theorem picked_apply (w : IVec S40x512 32) (h p : Fin 2) (r : Fin 40) (l : Fin 128) :
    picked w h p (ix2 r l) = w (ix2 r ⟨256 * h.val + 2 * l.val + p.val, by omega⟩) := by
  have hl := lanes_toNat p r l
  have key : ∀ l : Fin 128, IntOp.cmpi .slt (BitVec.ofNat 32 l.val) 64#32 = if l.val < 64 then 1#1 else 0#1 := by decide +kernel
  pointwise [picked]
  rw [key l]
  by_cases h64 : l.val < 64
  · rw [if_pos h64]
    show w _ = w _
    congr 2
    exact Fin.ext (by show 256 * h.val + (lanes p (ix2 r l)).toNat % 128 = _; rw [hl]; show _ = 256 * h.val + 2 * l.val + p.val; omega)
  · rw [if_neg h64]
    show w _ = w _
    congr 2
    exact Fin.ext (by
      show 256 * h.val + 128 + (lanes p (ix2 r l)).toNat % 128 = _
      rw [hl]
      show _ = 256 * h.val + 2 * l.val + p.val
      omega)

theorem words_byte (x : Vec F S160x512 .i8) (r : Fin 40) (l : Fin 512) (j : Fin 4) :
    IntOp.andi (IntOp.shrui .vector (words (F := F) x (ix2 r l)) (BitVec.ofNat 32 (8 * j.val))) 255#32
      = (x (ix2 ⟨4 * r.val + j.val, by omega⟩ l) : BitVec 8).setWidth 32 := by
  have hsh : ∀ v : BitVec 32, IntOp.shrui .vector v (BitVec.ofNat 32 (8 * j.val)) = v >>> (8 * j.val) := fun v => by
    have e : (BitVec.ofNat 32 (8 * j.val)).toNat = 8 * j.val := by
      rw [BitVec.toNat_ofNat]; exact Nat.mod_eq_of_lt (by omega)
    unfold IntOp.shrui
    rw [if_pos (by omega)]
    show v >>> (BitVec.ofNat 32 (8 * j.val)).toNat = _
    rw [e]
  rw [hsh]
  apply BitVec.eq_of_getLsbD_eq
  intro i hi
  have h255 : (255#32 : BitVec 32).getLsbD i = decide (i < 8) := by
    interval_cases i <;> rfl
  unfold IntOp.andi
  rw [BitVec.getLsbD_and, h255, BitVec.getLsbD_ushiftRight, BitVec.getLsbD_setWidth]
  by_cases h8 : i < 8
  · have hw := bitcast_8_32_getLsbD_ix2 (shapeCast S160x512 x shapeCasts_S160x512_S160x512)
      bitcasts_S160x512_w8_S40x512_w32 r l (8 * j.val + i) (by omega) ⟨4 * r.val + j.val, by omega⟩
      (by show 4 * r.val + j.val = _; omega)
    rw [← ix2_eq_valueIdx, ← ix2_eq_valueIdx] at hw
    rw [show (words (F := F) x (ix2 r l)).getLsbD (8 * j.val + i) = _ from hw]
    have e : shapeCast S160x512 x shapeCasts_S160x512_S160x512 (ix2 ⟨4 * r.val + j.val, by omega⟩ l)
      = x (ix2 ⟨4 * r.val + j.val, by omega⟩ l) := by pointwise
    rw [e, show (8 * j.val + i) % 8 = i from by omega]
    simp [h8, hi]
  · simp only [h8, decide_false, Bool.and_false]
    rw [BitVec.getLsbD_of_ge _ i (by omega), Bool.and_false]

theorem piece_apply (x : Vec F S160x512 .i8) (h p : Fin 2) (j : Fin 4) (r : Fin 40) (l : Fin 128) :
    piece x h p j (ix5 0 0 0 r l) = dup (x (ix2 ⟨4 * r.val + j.val, by omega⟩ ⟨256 * h.val + 2 * l.val + p.val, by omega⟩)) := by
  pointwise [piece, byteOf, picked_apply]
  rw [words_byte]
  rfl

/-- The prepared scales at a place, and as one function of the place. -/
def preparedAt (x : Vec F S160x512 .i8) (h p : Fin 2) (j : Fin 4) (r : Fin 40) (l : Fin 128) : BitVec 32 :=
  dup (x (ix2 ⟨4 * r.val + j.val, by omega⟩ ⟨256 * h.val + 2 * l.val + p.val, by omega⟩))

def prepared (x : Vec F S160x512 .i8) (y : S2x2x4x40x128.Idx) : BitVec 32 :=
  preparedAt x (y 0) (y 1) (y 2) (y 3) (y 4)

theorem sRow_apply (h p : Fin 2) (k : Fin 20) (j : Fin 8) (l : Fin 128) :
    Tile.sRow c arg3 harg3 arg5 x2 h p k j (ix5 0 0 0 0 l)
      = dup (x2 (ix2 ⟨8 * k.val + j.val, by omega⟩ ⟨256 * h.val + 2 * l.val + p.val, by omega⟩)) := by
  have hx : View.readAt (Elt F) arg3.view (Rect.unit (s := S160x512) ![0, 0] S160x512.size inb_S160x512_S160x512_0_0).toLoadRect
      (harg3.unread x2) = x2 := by
    funext i
    rw [harg3.readAt_unread]
    congr 1
    idx_vars i
    pointwise
  unfold Tile.sRow
  rw [View.readCov_eq_canon', pieces_eq, hx]
  show View.canon _ _ = _
  rw [View.canon_apply_of_pieces (prepared x2)]
  · pointwise [prepared, preparedAt]
    congr 3
    exact Fin.ext (by show 4 * ((8 * k.val + j.val) / 4) + (8 * k.val + j.val) % 4 = 8 * k.val + j.val; omega)
  · intro q hq y
    obtain ⟨n, rfl⟩ := (List.mem_ofFn' _ _).1 hq
    clear hq
    idx_vars y
    obtain rfl : y0 = 0 := Subsingleton.elim _ _
    obtain rfl : y1 = 0 := Subsingleton.elim _ _
    obtain rfl : y2 = 0 := Subsingleton.elim _ _
    have e : (Rect.unit (s := S2x2x4x40x128) ![(hOf n).val, (pOf n).val, (jOf n).val, 0, 0] S1x1x1x40x128.size
        (inbP (hOf n) (pOf n) (jOf n))).emb (ix5 0 0 0 y3 y4) = ix5 (hOf n) (pOf n) (jOf n) y3 y4 := by
      funext a
      apply Fin.ext
      fin_cases a
      · show (hOf n).val + 0 * 1 = _; rfl
      · show (pOf n).val + 0 * 1 = _; rfl
      · show (jOf n).val + 0 * 1 = _; rfl
      · show 0 + 1 * y3.val = y3.val; omega
      · show 0 + 1 * y4.val = y4.val; omega
    rw [show (Rect.unit (s := S2x2x4x40x128) ![(hOf n).val, (pOf n).val, (jOf n).val, 0, 0] ![1, 1, 1, 40, 128]
        _).emb (ix5 0 0 0 y3 y4) = _ from e]
    exact piece_apply x2 _ _ _ y3 y4
  · refine ⟨_, (List.mem_ofFn' _ _).2 ⟨⟨15 - (8 * h.val + 4 * p.val + (8 * k.val + j.val) % 4), by omega⟩, rfl⟩, ?_⟩
    rw [Rect.mem_set_unit]
    have e0 : ((hOf ⟨15 - (8 * h.val + 4 * p.val + (8 * k.val + j.val) % 4), by omega⟩).val) = h.val := by
      show (15 - (15 - (8 * h.val + 4 * p.val + (8 * k.val + j.val) % 4))) / 8 = _; omega
    have e1 : ((pOf ⟨15 - (8 * h.val + 4 * p.val + (8 * k.val + j.val) % 4), by omega⟩).val) = p.val := by
      show (15 - (15 - (8 * h.val + 4 * p.val + (8 * k.val + j.val) % 4))) / 4 % 2 = _; omega
    have e2 : ((jOf ⟨15 - (8 * h.val + 4 * p.val + (8 * k.val + j.val) % 4), by omega⟩).val) = (8 * k.val + j.val) % 4 := by
      show (15 - (15 - (8 * h.val + 4 * p.val + (8 * k.val + j.val) % 4))) % 4 = _; omega
    simp only [e0, e1, e2]
    intro a
    fin_cases a
    · show h.val ≤ h.val + 0 * 1 ∧ h.val + 0 * 1 < h.val + 1; omega
    · show p.val ≤ p.val + 0 * 1 ∧ p.val + 0 * 1 < p.val + 1; omega
    · show (8 * k.val + j.val) % 4 ≤ (8 * k.val + j.val) % 4 + 0 * 1 ∧ (8 * k.val + j.val) % 4 + 0 * 1 < (8 * k.val + j.val) % 4 + 1; omega
    · show 0 ≤ (8 * k.val + j.val) / 4 + 0 * 1 ∧ (8 * k.val + j.val) / 4 + 0 * 1 < 0 + 40; omega
    · show 0 ≤ 0 + 1 * l.val ∧ 0 + 1 * l.val < 0 + 128; omega

end Cert.KernelIdeal.Scales
-- ==== Proof.Block.lean ====
/- What one grid point writes, at an index: a sum over the contraction axis of an activation times a code's number times
   its block's power of two. -/
module

public import proofs.«01_k».proof.Proof.Scales
public import Idealize.ShloMosaic.Lib.BitcastPair

@[expose] public section

set_option maxRecDepth 16384

noncomputable section

namespace Cert.KernelIdeal.Block

open Cert.KernelIdeal Cert.KernelIdeal.Gen Cert.Decode Cert.KernelIdeal.Tile Cert.KernelIdeal.Scales
open Idealize.ShloMosaic Idealize.SL.Sem

/-- The low (`p = 0`) or high nibble of a byte. -/
def nib (p : Fin 2) (b : BitVec 8) : BitVec 4 := b.extractLsb' (4 * p.val) 4

/-- A scale byte's power of two. -/
def scaleVal (b : BitVec 8) : EReal := Ideal.ofBits .bf16 ((b.setWidth 16) <<< 7)

theorem dup_half (b : BitVec 8) (n : ℕ) (hn : n < 2) : (dup b).extractLsb' (16 * n) 16 = (b.setWidth 16) <<< 7 := by
  have : ∀ (b : BitVec 8) (n : Fin 2), (dup b).extractLsb' (16 * n.val) 16 = (b.setWidth 16) <<< 7 := by decide +kernel
  exact this b ⟨n, hn⟩

theorem scaleTile_apply (row : Vec Ideal S1x1x1x1x128 .i32) (b : BitVec 8) (a : Fin 32) (l : Fin 128)
    (hb : row (ix5 0 0 0 0 l) = dup b) : scaleTile (F := Ideal) row (ix2 a l) = scaleVal b := by
  show Ideal.ofBits .bf16 (bitcast S32x128 16 _ bitcasts_S16x128_w32_S32x128_w16 (ix2 a l)) = _
  rw [bitcast_32_16]
  have e : ∀ hp, (bitcasts_S16x128_w32_S32x128_w16).srcIdx (ix2 a l) (S32x128.row (ix2 a l) / 2) hp
      = ix2 ⟨a.val / 2, by omega⟩ l := fun hp => by
    funext x
    match x with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [e, show S32x128.row (ix2 a l) = a.val from rfl]
  have er : broadcastTo S16x128 (shapeCast S1x128 (shapeCast S1x128 row shapeCasts_S1x1x1x1x128_S1x128) shapeCasts_S1x128_S1x128)
      broadcasts_S1x128_S16x128 (ix2 ⟨a.val / 2, by omega⟩ l) = row (ix5 0 0 0 0 l) := by
    pointwise
  rw [er, hb, dup_half b _ (Nat.mod_lt _ (by decide))]
  rfl

theorem codesT_apply (c : Vec Ideal S128x256 .i8) (a : Fin 256) (l : Fin 128) :
    codesT (F := Ideal) c (ix2 a l) = c (ix2 l a) := by
  pointwise [codesT]

theorem low_apply (c : Vec Ideal S128x256 .i8) (a : Fin 256) (l : Fin 128) :
    low (F := Ideal) c (ix2 a l) = codeVal (nib 0 (c (ix2 l a))) := by
  unfold low codeVal
  rw [codeVec_apply (t := ⟨0, ![]⟩) _ _ (fun a => a.elim0)]
  have e : extsi 32 (trunci 4 (codesT (F := Ideal) c) natLt_4_8) natLt_4_32 (ix2 a l) = (nib 0 (c (ix2 l a))).signExtend 32 := by
    have : ∀ b : BitVec 8, (b.setWidth 4).signExtend 32 = (nib 0 b).signExtend 32 := by decide +kernel
    rw [← this, ← codesT_apply c a l]
    rfl
  rw [e]

theorem shifted_nib (c : Vec Ideal S128x256 .i8) (a : Fin 256) (l : Fin 128) :
    (shifted (F := Ideal) c (ix2 a l) : BitVec 8).setWidth 4 = nib 1 (c (ix2 l a)) := by
  apply BitVec.eq_of_getLsbD_eq
  intro i hi
  unfold nib shifted
  rw [BitVec.getLsbD_setWidth, BitVec.getLsbD_extractLsb', bitcast_getLsbD _ _ _ i (by omega) (by decide)]
  have e : ∀ hp, (bitcasts_S64x128_w32_S256x128_w8).srcIdx (ix2 a l) ((S256x128.row (ix2 a l) * 8 + i) / 32) hp
      = ix2 ⟨a.val / 4, by omega⟩ l := fun hp => by
    funext x
    match x with
    | ⟨0, _⟩ => exact Fin.ext ((Shape.Bitcasts.srcIdx_row _ _ _ _ ⟨0, Nat.zero_lt_two⟩ rfl).trans (by show (a.val * 8 + i) / 32 = a.val / 4; omega))
    | ⟨1, _⟩ => exact Fin.ext (Shape.Bitcasts.srcIdx_other _ _ _ _ ⟨1, Nat.one_lt_two⟩ (by show ¬ 1 + 2 = 2; omega))
  have hsh : ∀ v : BitVec 32, IntOp.shrui .vector v 4#32 = v >>> 4 := fun v => rfl
  rw [e, show S256x128.row (ix2 a l) = a.val from rfl]
  show (decide (i < 4) && (IntOp.shrui .vector (bitcast S64x128 32 (codesT (F := Ideal) c) bitcasts_S256x128_w8_S64x128_w32
    (ix2 ⟨a.val / 4, by omega⟩ l)) 4#32).getLsbD ((a.val * 8 + i) % 32)) = (_ : Bool)
  rw [hsh, BitVec.getLsbD_ushiftRight]
  have hw := bitcast_8_32_getLsbD_ix2 (codesT (F := Ideal) c) bitcasts_S256x128_w8_S64x128_w32 ⟨a.val / 4, by omega⟩ l
    (4 + (a.val * 8 + i) % 32) (by omega) a (by show a.val = 4 * (a.val / 4) + _; omega)
  rw [← ix2_eq_valueIdx, ← ix2_eq_valueIdx, codesT_apply] at hw
  rw [show (bitcast S64x128 32 (codesT (F := Ideal) c) bitcasts_S256x128_w8_S64x128_w32
    (ix2 ⟨a.val / 4, by omega⟩ l)).getLsbD (4 + (a.val * 8 + i) % 32) = _ from hw,
    show (4 + (a.val * 8 + i) % 32) % 8 = 4 + i from by omega]
  rfl

theorem high_apply (c : Vec Ideal S128x256 .i8) (a : Fin 256) (l : Fin 128) :
    high (F := Ideal) c (ix2 a l) = codeVal (nib 1 (c (ix2 l a))) := by
  unfold high codeVal
  rw [codeVec_apply (t := ⟨0, ![]⟩) _ _ (fun a => a.elim0), ← shifted_nib]
  rfl

theorem col_apply (w : FVec Ideal S256x128 .bf16) (s : Fin 8 → Vec Ideal S1x1x1x1x128 .i32) (a : Fin 256) (l : Fin 128) :
    col w s (ix2 a l) = w (ix2 a l) * scaleTile (F := Ideal) (s ⟨a.val / 32, by omega⟩) (ix2 ⟨a.val % 32, by omega⟩ l) := by
  unfold col
  refine (concatenate_ofFn_apply (t := S256x128) (s₁ := S32x128) 0
    (fun j : Fin 8 => mulf (extractStridedSlice S32x128 ![32 * j.val, 0] w (slices j)) (scaleTile (F := Ideal) (s j)))
    _ rfl 32 rfl (ix2 a l) ⟨a.val / 32, by omega⟩ rfl (ix2 ⟨a.val % 32, by omega⟩ l) rfl ?_).trans ?_
  · intro b hb
    match b with
    | ⟨0, _⟩ => exact absurd rfl hb
    | ⟨1, _⟩ => rfl
  · pointwise
    congr 3
    exact Fin.ext (by show 32 * (a.val / 32) + a.val % 32 = a.val; omega)

theorem weights_apply (c : Vec Ideal S128x256 .i8) (s : Fin 2 → Fin 8 → Vec Ideal S1x1x1x1x128 .i32) (a : Fin 256) (p : Fin 2) (l : Fin 128) :
    weights c s (ix2 a ⟨128 * p.val + l.val, by omega⟩) = codeVal (nib p (c (ix2 l a)))
      * scaleTile (F := Ideal) (s p ⟨a.val / 32, by omega⟩) (ix2 ⟨a.val % 32, by omega⟩ l) := by
  pointwise [weights]
  split
  · obtain rfl : p = 0 := Fin.ext (by show p.val = 0; omega)
    rw [col_apply, low_apply]
    congr <;> simp
  · obtain rfl : p = 1 := Fin.ext (by show p.val = 1; omega)
    rw [col_apply, high_apply]
    congr <;> simp

theorem step_apply (acc : FVec Ideal S192x256 .f32) (x : Vec Ideal S192x256 .bf16) (c : Vec Ideal S128x256 .i8)
    (s : Fin 2 → Fin 8 → Vec Ideal S1x1x1x1x128 .i32) (t : Fin 192) (q : Fin 256) :
    step (F := Ideal) acc x c s (ix2 t q) = acc (ix2 t q) + ∑ a : Fin 256, x (ix2 t a) * weights c s (ix2 a q) := by
  pointwise [step]

section Run

variable (c : Dev nD) (arg1 : Memref sig .tc .vmem S192x5120 .bf16) (harg1 : arg1.IsWhole)
  (arg2 : Memref sig .tc .vmem S256x5120 .i8) (harg2 : arg2.IsWhole)
  (arg3 : Memref sig .tc .vmem S160x512 .i8) (harg3 : arg3.IsWhole)
  (arg5 : Memref sig .tc .vmem S2x2x4x40x128 .i32)
  (x0 : Vec Ideal S192x5120 .bf16) (x1 : Vec Ideal S256x5120 .i8) (x2 : Vec Ideal S160x512 .i8)

/-- One term of a result's sum: the activation at `(t, k)` times the number of nibble `p` of code row `r`, scaled. -/
def term (t : Fin 192) (r : Fin 256) (p : Fin 2) (k : Fin 5120) : EReal :=
  x0 (ix2 t k) * (codeVal (nib p (x1 (ix2 r k))) * scaleVal (x2 (ix2 ⟨k.val / 32, by omega⟩ ⟨2 * r.val + p.val, by omega⟩)))

theorem xTile_apply (k : Fin 20) (t : Fin 192) (a : Fin 256) :
    xTile arg1 harg1 x0 k (ix2 t a) = x0 (ix2 t ⟨256 * k.val + a.val, by omega⟩) := by
  unfold xTile
  rw [harg1.readAt_unread]
  pointwise

theorem cTile_apply (h : Fin 2) (k : Fin 20) (r : Fin 128) (a : Fin 256) :
    cTile (F := Ideal) arg2 harg2 x1 h k (ix2 r a) = x1 (ix2 ⟨128 * h.val + r.val, by omega⟩ ⟨256 * k.val + a.val, by omega⟩) := by
  unfold cTile
  rw [harg2.readAt_unread]
  pointwise

theorem acc_succ (h p : Fin 2) (n : ℕ) (hn : n < 20) (t : Fin 192) (l : Fin 128) :
    acc (F := Ideal) c arg1 harg1 arg2 harg2 arg3 harg3 arg5 x0 x1 x2 h (n + 1) hn (ix2 t ⟨128 * p.val + l.val, by omega⟩)
      = acc (F := Ideal) c arg1 harg1 arg2 harg2 arg3 harg3 arg5 x0 x1 x2 h n hn.le (ix2 t ⟨128 * p.val + l.val, by omega⟩)
        + ∑ a : Fin 256, term x0 x1 x2 t ⟨128 * h.val + l.val, by omega⟩ p ⟨256 * n + a.val, by omega⟩ := by
  rw [acc, step_apply]
  congr 1
  refine Finset.sum_congr rfl fun a _ => ?_
  rw [weights_apply, xTile_apply, cTile_apply,
    scaleTile_apply _ _ _ _ (sRow_apply c arg3 harg3 arg5 x2 h p ⟨n, hn⟩ ⟨a.val / 32, by omega⟩ l)]
  unfold term
  congr 5
  · exact Fin.ext (by show 8 * n + a.val / 32 = (256 * n + a.val) / 32; omega)
  · exact Fin.ext (by show 256 * h.val + 2 * l.val + p.val = 2 * (128 * h.val + l.val) + p.val; omega)

/-- The accumulator after every tile is the whole sum. -/
theorem acc_apply (h p : Fin 2) (t : Fin 192) (l : Fin 128) :
    acc (F := Ideal) c arg1 harg1 arg2 harg2 arg3 harg3 arg5 x0 x1 x2 h 20 le_rfl (ix2 t ⟨128 * p.val + l.val, by omega⟩)
      = ∑ k : Fin 5120, term x0 x1 x2 t ⟨128 * h.val + l.val, by omega⟩ p k := by
  have key : ∀ (n : ℕ) (hn : n ≤ 20),
      acc (F := Ideal) c arg1 harg1 arg2 harg2 arg3 harg3 arg5 x0 x1 x2 h n hn (ix2 t ⟨128 * p.val + l.val, by omega⟩)
        = ∑ m : Fin n, ∑ a : Fin 256, term x0 x1 x2 t ⟨128 * h.val + l.val, by omega⟩ p ⟨256 * m.val + a.val, by omega⟩ := by
    intro n
    induction n with
    | zero =>
      intro hn
      rw [acc]
      show Ideal.ofBits .f32 0x00000000#32 = ∑ m : Fin 0, _
      simp
    | succ n ih =>
      intro hn
      rw [acc_succ _ _ _ _ _ _ _ _ _ _ _ _ _ n hn, ih, Fin.sum_univ_castSucc (n := n)]
      rfl
  rw [key 20 le_rfl, ← Fintype.sum_prod_type', ← (finProdFinEquiv (m := 20) (n := 256)).sum_comp]
  refine Finset.sum_congr rfl fun y _ => ?_
  congr 1
  exact Fin.ext (by show 256 * y.1.val + y.2.val = y.2.val + 256 * y.1.val; omega)

end Run

end Cert.KernelIdeal.Block
-- ==== Proof.Out.lean ====
/- The block one grid point writes: four pieces of 128 columns, each column taking its channel's sum. -/
module

public import proofs.«01_k».proof.Proof.Block

@[expose] public section

set_option maxRecDepth 16384

noncomputable section

namespace Cert.KernelIdeal.Out

open Cert.KernelIdeal Cert.KernelIdeal.Gen Cert.Decode Cert.KernelIdeal.Tile Cert.KernelIdeal.Block
open Idealize.ShloMosaic Idealize.SL.Sem

section Pieces

variable {F : FTy → Type} [FloatOps F]

/-- The lane read: half the lane, from lane 0 or 64. -/
def base (cc : Fin 2) : IVec S192x128 32 :=
  addi (shrsi (iota .tc S192x128 32 [1] iota_S192x128_d1_w32) (broadcast S192x128 1#32))
    (broadcast S192x128 (BitVec.ofNat 32 (64 * cc.val)))

def lanes (cc : Fin 2) : IVec S192x128 32 :=
  shapeCast S192x128 (shapeCast S192x128x1 (select (cmpi .slt (base cc) (broadcast S192x128 0#32))
    (addi (base cc) (broadcast S192x128 128#32)) (base cc)) shapeCasts_S192x128_S192x128x1) shapeCasts_S192x128x1_S192x128

/-- Piece `cc` of an accumulator's two: its even lanes from the low nibbles' sums, its odd lanes from the high nibbles'. -/
def piece (A : FVec F S192x256 .f32) (cc : Fin 2) : FVec F S192x128 .bf16 :=
  truncf .bf16 (select (cmpi .eq (andi (iota .tc S192x128 32 [1] iota_S192x128_d1_w32) (broadcast S192x128 1#32)) (broadcast S192x128 0#32))
    (dynamicGather 1 (extf .f32 (extractStridedSlice S192x128 ![0, 0] (truncf .bf16 A bitsLt_bf16_f32 : FVec F S192x256 .bf16)
      slices_S192x256_o0_0_S192x128) bitsLt_bf16_f32 : FVec F S192x128 .f32) (lanes cc))
    (dynamicGather 1 (extf .f32 (extractStridedSlice S192x128 ![0, 128] (truncf .bf16 A bitsLt_bf16_f32 : FVec F S192x256 .bf16)
      slices_S192x256_o0_128_S192x128) bitsLt_bf16_f32 : FVec F S192x128 .f32) (lanes cc))) bitsLt_bf16_f32

/-- The place of the piece stored `n`-th from the last. -/
def hOf (n : Fin 4) : Fin 2 := ⟨(3 - n.val) / 2, by omega⟩
def cOf (n : Fin 4) : Fin 2 := ⟨(3 - n.val) % 2, by omega⟩

theorem inbO (n : Fin 4) : ∀ a, (![0, 128 * (3 - n.val)] : Fin 2 → ℕ) a + S192x128.size a ≤ S192x512.size a := by
  revert n; decide

variable (c : Dev nD) (i : grid0.Coords) (arg1 : Memref sig .tc .vmem S192x5120 .bf16) (harg1 : arg1.IsWhole)
  (arg2 : Memref sig .tc .vmem S256x5120 .i8) (harg2 : arg2.IsWhole)
  (arg3 : Memref sig .tc .vmem S160x512 .i8) (harg3 : arg3.IsWhole)
  (arg4 : Memref sig .tc .vmem S192x512 .bf16) (harg4 : arg4.IsWhole)
  (arg5 : Memref sig .tc .vmem S2x2x4x40x128 .i32) (harg5 : arg5.IsWhole)
  (x0 : Vec F S192x5120 .bf16) (x1 : Vec F S256x5120 .i8) (x2 : Vec F S160x512 .i8)

theorem pieces_eq : (kernelRun0_A c i arg1 harg1 arg2 harg2 arg3 harg3 arg4 harg4 arg5 harg5 x0 x1 x2).1
    = List.ofFn fun n : Fin 4 => (⟨Rect.unit (s := S192x512) ![0, 128 * (3 - n.val)] S192x128.size (inbO n),
        piece (acc c arg1 harg1 arg2 harg2 arg3 harg3 arg5 x0 x1 x2 (hOf n) 20 le_rfl) (cOf n)⟩ : View.Piece (Elt F) S192x512 .bf16) := by
  sl_kernel_rfl

end Pieces

theorem lanes_toNat (cc : Fin 2) (t : Fin 192) (l : Fin 128) : (lanes cc (ix2 t l)).toNat % 128 = l.val / 2 + 64 * cc.val := by
  have key : ∀ (l : Fin 128) (p : Fin 2), (Scalar.select (IntOp.cmpi .slt (IntOp.addi (IntOp.shrsi .vector (BitVec.ofNat 32 l.val) 1#32) (BitVec.ofNat 32 (64 * p.val))) 0#32)
      (IntOp.addi (IntOp.addi (IntOp.shrsi .vector (BitVec.ofNat 32 l.val) 1#32) (BitVec.ofNat 32 (64 * p.val))) 128#32)
      (IntOp.addi (IntOp.shrsi .vector (BitVec.ofNat 32 l.val) 1#32) (BitVec.ofNat 32 (64 * p.val)))).toNat % 128 = l.val / 2 + 64 * p.val := by
    decide +kernel
  rw [← key l cc]
  pointwise [lanes, base]

theorem piece_apply (A : FVec Ideal S192x256 .f32) (cc : Fin 2) (t : Fin 192) (l : Fin 128) :
    piece A cc (ix2 t l) = A (ix2 t ⟨128 * (l.val % 2) + (l.val / 2 + 64 * cc.val), by omega⟩) := by
  have hl := lanes_toNat cc t l
  have key : ∀ l : Fin 128, IntOp.cmpi .eq (IntOp.andi (BitVec.ofNat 32 l.val) 1#32) 0#32 = if l.val % 2 = 0 then 1#1 else 0#1 := by
    decide +kernel
  pointwise [piece]
  rw [key l]
  by_cases h2 : l.val % 2 = 0
  · rw [if_pos h2]
    show A _ = A _
    congr 2
    exact Fin.ext (by show (lanes cc (ix2 t l)).toNat % 128 = 128 * (l.val % 2) + (l.val / 2 + 64 * cc.val); omega)
  · rw [if_neg h2]
    show A _ = A _
    congr 2
    exact Fin.ext (by show 128 + (lanes cc (ix2 t l)).toNat % 128 = 128 * (l.val % 2) + (l.val / 2 + 64 * cc.val); omega)

variable (c : Dev nD) (i : grid0.Coords) (arg1 : Memref sig .tc .vmem S192x5120 .bf16) (harg1 : arg1.IsWhole)
  (arg2 : Memref sig .tc .vmem S256x5120 .i8) (harg2 : arg2.IsWhole)
  (arg3 : Memref sig .tc .vmem S160x512 .i8) (harg3 : arg3.IsWhole)
  (arg4 : Memref sig .tc .vmem S192x512 .bf16) (harg4 : arg4.IsWhole)
  (arg5 : Memref sig .tc .vmem S2x2x4x40x128 .i32) (harg5 : arg5.IsWhole)
  (x0 : Vec Ideal S192x5120 .bf16) (x1 : Vec Ideal S256x5120 .i8) (x2 : Vec Ideal S160x512 .i8)

/-- The block's value: column `q` is the sum of code row `q / 2`'s nibble `q % 2`. -/
def blockAt (t : Fin 192) (q : Fin 512) : EReal :=
  ∑ k : Fin 5120, term x0 x1 x2 t ⟨q.val / 2, by omega⟩ ⟨q.val % 2, by omega⟩ k

def blockVal (y : S192x512.Idx) : EReal := blockAt x0 x1 x2 (y 0) (y 1)

theorem out_eq : out0_A_3 (F := Ideal) c i arg1 harg1 arg2 harg2 arg3 harg3 arg4 harg4 arg5 harg5 x0 x1 x2 = blockVal x0 x1 x2 := by
  unfold out0_A_3
  rw [View.read_writes_junk_eq_canon, pieces_eq]
  funext y
  refine View.canon_apply_of_pieces (Val := Elt Ideal) (e := .bf16) (blockVal x0 x1 x2) _ ?_ y ?_
  · intro q hq z
    obtain ⟨n, rfl⟩ := (List.mem_ofFn' _ _).1 hq
    clear hq
    idx_vars z
    have e : (Rect.unit (s := S192x512) ![0, 128 * (3 - n.val)] S192x128.size (inbO n)).emb (ix2 z0 z1)
        = ix2 z0 ⟨128 * (3 - n.val) + z1.val, by omega⟩ := by
      funext a
      apply Fin.ext
      fin_cases a
      · show 0 + 1 * z0.val = z0.val; omega
      · show 128 * (3 - n.val) + 1 * z1.val = 128 * (3 - n.val) + z1.val; omega
    refine ((piece_apply _ _ z0 z1).trans ?_).trans (congrArg (blockVal x0 x1 x2) e.symm)
    have ha := acc_apply c arg1 harg1 arg2 harg2 arg3 harg3 arg5 x0 x1 x2 (hOf n) ⟨z1.val % 2, by omega⟩ z0
      ⟨z1.val / 2 + 64 * (cOf n).val, by omega⟩
    refine ha.trans ?_
    show _ = blockAt x0 x1 x2 z0 _
    unfold blockAt
    refine Finset.sum_congr rfl fun k _ => ?_
    congr 1
    · exact Fin.ext (by
        show 128 * ((3 - n.val) / 2) + (z1.val / 2 + 64 * ((3 - n.val) % 2)) = (128 * (3 - n.val) + z1.val) / 2
        omega)
    · exact Fin.ext (by show z1.val % 2 = (128 * (3 - n.val) + z1.val) % 2; omega)
  · idx_vars y
    refine ⟨_, (List.mem_ofFn' _ _).2 ⟨⟨3 - y1.val / 128, by omega⟩, rfl⟩, ?_⟩
    rw [Rect.mem_set_unit]
    intro a
    fin_cases a
    · show 0 ≤ y0.val ∧ y0.val < 0 + 192; omega
    · show 128 * (3 - (3 - y1.val / 128)) ≤ y1.val ∧ y1.val < 128 * (3 - (3 - y1.val / 128)) + 128; omega

end Cert.KernelIdeal.Out
-- ==== Proof.Whole.lean ====
/- The kernel's whole result, read off its blocks. -/
module

public import proofs.«01_k».proof.Proof.Out
public import Idealize.ShloMosaic.Lib.Claim
public import Idealize.ShloMosaic.Lib.Pipeline.ValueKit

@[expose] public section

set_option maxRecDepth 16384

noncomputable section

namespace Cert.KernelIdeal.Whole

open Cert.KernelIdeal Cert.KernelIdeal.Gen Cert.Decode Cert.KernelIdeal.Block Cert.KernelIdeal.Out
open Idealize.ShloMosaic Idealize.ShloMosaic.TcCoe Idealize.SL.Sem
open Idealize.ShloMosaic.Pipeline (Dat)

/-- One term of channel `n`'s sum for token `t`: the activation times the channel's code's number, scaled. Channel `n`
    is nibble `n % 2` of code row `n / 2`; its scales are row `n`. -/
def chanTerm (x : Vec Ideal S192x1x5120 .bf16) (w : Vec Ideal S8960x5120 .i8) (s : Vec Ideal S17920x160 .i8)
    (t : Fin 192) (n : Fin 17920) (k : Fin 5120) : EReal :=
  x (ix3 t 0 k) * (codeVal (nib ⟨n.val % 2, by omega⟩ (w (ix2 ⟨n.val / 2, by omega⟩ k)))
    * scaleVal (s (ix2 n ⟨k.val / 32, by omega⟩)))

def chanAt (x : Vec Ideal S192x1x5120 .bf16) (w : Vec Ideal S8960x5120 .i8) (s : Vec Ideal S17920x160 .i8)
    (t : Fin 192) (n : Fin 17920) : EReal := ∑ k : Fin 5120, chanTerm x w s t n k

/-- The result as one function of the arguments. -/
def result (x : Vec Ideal S192x1x5120 .bf16) (w : Vec Ideal S8960x5120 .i8) (s : Vec Ideal S17920x160 .i8) :
    Vec Ideal S192x17920 .bf16 := fun y => chanAt x w s (y 0) (y 1)

variable (m : (ℓ : Loc nD τ sig) → Buf (Elt Ideal) ℓ)

theorem idx : ∀ t : Fin grid0.N, win0_0.index t = ![0, 0] ∧ win0_1.index t = ![t.val, 0] ∧ win0_2.index t = ![0, t.val]
    ∧ win0_3.index t = ![0, t.val] := by
  decide +kernel

theorem term_eq (c : Dev nD) (t : Fin cfg0.N) (ht : t.val < 35) (r : Fin 192) (q : Fin 512) (k : Fin 5120) :
    term (iblk m c 0 t) (iblk m c 1 t) (iblk m c 2 t) r ⟨q.val / 2, by omega⟩ ⟨q.val % 2, by omega⟩ k
      = chanTerm (m ((c : Thread nD τ).loc main_arg0)) (m ((c : Thread nD τ).loc main_arg1)) (m ((c : Thread nD τ).loc main_arg2))
          r ⟨512 * t.val + q.val, by omega⟩ k := by
  have hx : iblk m c 0 t (ix2 r k) = m ((c : Thread nD τ).loc main_arg0) (ix3 r 0 k) := by
    blk_simp [iblk]
    entry_read
    pointwise
    blk_ext [idx t]
  have hw : iblk m c 1 t (ix2 ⟨q.val / 2, by omega⟩ k)
      = m ((c : Thread nD τ).loc main_arg1) (ix2 ⟨(512 * t.val + q.val) / 2, by omega⟩ k) := by
    blk_ext [iblk, V, idx t]
  have hs : iblk m c 2 t (ix2 ⟨k.val / 32, by omega⟩ ⟨2 * (q.val / 2) + q.val % 2, by omega⟩)
      = m ((c : Thread nD τ).loc main_arg2) (ix2 ⟨512 * t.val + q.val, by omega⟩ ⟨k.val / 32, by omega⟩) := by
    blk_simp [iblk]
    entry_read
    pointwise
    blk_ext [idx t]
  unfold term chanTerm
  rw [hx, hw, hs]
  congr 4
  exact Fin.ext (by show q.val % 2 = (512 * t.val + q.val) % 2; omega)

theorem arr_eq (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  simp only [outsAt0]
  rw [out_eq]
  idx_vars y
  have ht : t.val < 35 := lt_of_lt_of_eq t.isLt N_0
  have e : (((View.whole main_v2).slice (win0_3.rect t)).emb (ix2 y0 y1) : S192x17920.Idx) = ix2 y0 ⟨512 * t.val + y1.val, by omega⟩ := by
    blk_ext [idx t]
  refine Eq.trans ?_ (congrArg (result _ _ _) e.symm)
  show blockAt _ _ _ y0 y1 = chanAt _ _ _ y0 _
  unfold blockAt chanAt
  exact Finset.sum_congr rfl fun k _ => term_eq m c t ht y0 y1 k

end Cert.KernelIdeal.Whole
-- ==== Proof.Reference.lean ====
/- The reference's result at an index. -/
module

public import proofs.«01_k».proof.Proof.Gen.ReferenceIdeal.Run
public import proofs.«01_k».proof.Proof.Decode
public import Idealize.ShloMosaic.Lib.Pointwise
public import Idealize.ShloMosaic.Lib.Tactic

@[expose] public section

set_option maxRecDepth 16384

noncomputable section

namespace Cert.ReferenceIdeal.Reading

open Cert.ReferenceIdeal Cert.ReferenceIdeal.Gen Cert.ReferenceIdeal.Value Cert.Decode Idealize.ShloMosaic Idealize.ShloMosaic.TcCoe Idealize.SL.Sem

/-- A constant of the code rows' shape. -/
def splat (b : BitVec 32) : IVec S8960x5120 32 := broadcastInDim S8960x5120 ![] bcast_S_S8960x5120 (constantI S_ 32 b)

/-- The codes as 32-bit words, their low nibbles, their high nibbles. -/
def wide (w : IVec S8960x5120 8) : IVec S8960x5120 32 := extui 32 w natLt_8_32
def lo (w : IVec S8960x5120 8) : IVec S8960x5120 32 := andi (wide w) (splat 15#32)
def hi (w : IVec S8960x5120 8) : IVec S8960x5120 32 := Host.shrsi (wide w) (splat 4#32)

theorem slices (p : Fin 2) : S8960x2x160.Slices ![0, p.val, 0] S8960x1x160 := by revert p; decide

/-- The scales of the channels `2 r + p`, each repeated over its block. -/
def scales (s : IVec S17920x160 8) (p : Fin 2) : IVec S8960x5120 32 :=
  extui 32 (shapeCast S8960x5120 (broadcastInDim S8960x160x32 ![0, 1] bcast_S8960x160_S8960x160x32_0_1
    (shapeCast S8960x160 (extractStridedSlice S8960x1x160 ![0, p.val, 0] (shapeCast S8960x2x160 s shapeCasts_S17920x160_S8960x2x160)
      (slices p)) shapeCasts_S8960x1x160_S8960x160)) shapeCasts_S8960x160x32_S8960x5120) natLt_8_32

/-- The words whose low sixteen bits the reference reads as its weights. -/
def bits (c s : IVec S8960x5120 32) : IVec S8960x5120 32 :=
  ori (select (cmpi .eq (andi c (splat 7#32)) (splat 0#32)) (splat 0#32)
    (ori (Host.shli (subi (addi s (Host.shrsi (andi c (splat 7#32)) (splat 1#32))) (splat 1#32)) (splat 7#32))
      (Host.shli (select (cmpi .sgt (andi c (splat 7#32)) (splat 1#32)) (andi (andi c (splat 7#32)) (splat 1#32)) (splat 0#32)) (splat 6#32))))
    (Host.shli (andi c (splat 8#32)) (splat 12#32))

section

variable {F : FTy → Type} [FloatOps F]

/-- The results of the channels of one parity. -/
def half (x : FVec F S192x1x5120 .bf16) (c s : IVec S8960x5120 32) : FVec F S192x8960x1 .bf16 :=
  broadcastInDim S192x8960x1 ![0, 1] bcast_S192x8960_S192x8960x1_0_1 (truncf .bf16 (Host.dotGeneral
    dot_S192x5120_S8960x5120_S192x8960_1_1_0_0_n_n none (shapeCast S192x5120 x shapeCasts_S192x1x5120_S192x5120)
    (bitcastToFloat (F := F) .bf16 (trunci 16 (bits c s) natLt_16_32))) bitsLt_bf16_f32)

def value (x : FVec F S192x1x5120 .bf16) (w : IVec S8960x5120 8) (s : IVec S17920x160 8) : FVec F S192x17920 .bf16 :=
  shapeCast S192x17920 (concatenate S192x8960x2 2 [⟨S192x8960x1, half x (lo w) (scales s 0)⟩,
    ⟨S192x8960x1, half x (hi w) (scales s 1)⟩] concatenates_S192x8960x1_S192x8960x1_S192x8960x2_d2) shapeCasts_S192x8960x2_S192x17920

theorem res_eq (m : (ℓ : Loc nD τ sig) → Buf (Elt F) ℓ) (c : Dev nD) : res_out0 m c
    = value (m ((c.tc : Thread nD τ).loc main_arg0)) (m ((c.tc : Thread nD τ).loc main_arg1)) (m ((c.tc : Thread nD τ).loc main_arg2)) := by
  sl_kernel_rfl

end

theorem splat_apply (b : BitVec 32) (r : Fin 8960) (k : Fin 5120) : splat b (ix2 r k) = b := by
  pointwise [splat]

theorem bits_apply (c s : IVec S8960x5120 32) (r : Fin 8960) (k : Fin 5120) :
    bits c s (ix2 r k) = refBits (c (ix2 r k)) (s (ix2 r k)) := by
  pointwise [bits, splat_apply]
  generalize c (ix2 r k) = c
  generalize s (ix2 r k) = s
  have hsel : ∀ (b : Bool) (x y : BitVec 32), Scalar.select (BitVec.ofBool b) x y = if b then x else y := fun b x y => by
    cases b <;> rfl
  unfold IntOp.cmpi refBits
  rw [hsel, hsel]
  show (if (c &&& 7#32 == 0#32) = true then 0#32 else ((s + (c &&& 7#32).sshiftRight 1 - 1#32) <<< 7)
    ||| ((if (1#32).slt (c &&& 7#32) = true then (c &&& 7#32) &&& 1#32 else 0#32) <<< 6)) ||| ((c &&& 8#32) <<< 12) = _
  simp only [beq_iff_eq]

theorem lo_apply (w : IVec S8960x5120 8) (r : Fin 8960) (k : Fin 5120) :
    lo w (ix2 r k) = ((w (ix2 r k)).extractLsb' 0 4).setWidth 32 := by
  have key : ∀ b : BitVec 8, (b.setWidth 32) &&& 15#32 = (b.extractLsb' 0 4).setWidth 32 := by decide +kernel
  pointwise [lo, wide, splat_apply]
  exact key _

theorem hi_apply (w : IVec S8960x5120 8) (r : Fin 8960) (k : Fin 5120) :
    hi w (ix2 r k) = ((w (ix2 r k)).extractLsb' 4 4).setWidth 32 := by
  have key : ∀ b : BitVec 8, IntOp.shrsi .host (b.setWidth 32) 4#32 = (b.extractLsb' 4 4).setWidth 32 := by decide +kernel
  pointwise [hi, wide, splat_apply]
  exact key _

theorem scales_apply (s : IVec S17920x160 8) (p : Fin 2) (r : Fin 8960) (k : Fin 5120) :
    scales s p (ix2 r k) = (s (ix2 ⟨2 * r.val + p.val, by omega⟩ ⟨k.val / 32, by omega⟩)).setWidth 32 := by
  pointwise [scales]
  congr 3
  exact Fin.ext (by show r.val * 2 + p.val = 2 * r.val + p.val; omega)

theorem half_apply (x : FVec Ideal S192x1x5120 .bf16) (c s : IVec S8960x5120 32) (t : Fin 192) (r : Fin 8960) :
    half x c s (ix3 t r 0) = ∑ k : Fin 5120, x (ix3 t 0 k)
      * Ideal.ofBits .bf16 ((refBits (c (ix2 r k)) (s (ix2 r k))).setWidth 16) := by
  pointwise [half, bits_apply]

theorem value_apply (x : FVec Ideal S192x1x5120 .bf16) (w : IVec S8960x5120 8) (s : IVec S17920x160 8) (t : Fin 192) (n : Fin 17920) :
    value x w s (ix2 t n) = ∑ k : Fin 5120, x (ix3 t 0 k) * Ideal.ofBits .bf16
      ((refBits (((w (ix2 ⟨n.val / 2, by omega⟩ k)).extractLsb' (4 * (n.val % 2)) 4).setWidth 32)
        ((s (ix2 n ⟨k.val / 32, by omega⟩)).setWidth 32)).setWidth 16) := by
  pointwise [value]
  split
  · rename_i h
    have e : (⟨n.val % 2, by omega⟩ : Fin 1) = 0 := Subsingleton.elim _ _
    rw [e, half_apply]
    refine Finset.sum_congr rfl fun k _ => ?_
    rw [lo_apply, scales_apply]
    have h0 : n.val % 2 = 0 := by omega
    have en : (⟨2 * (n.val / 2) + (0 : Fin 2).val, by show 2 * (n.val / 2) + 0 < 17920; omega⟩ : Fin 17920) = n :=
      Fin.ext (by show 2 * (n.val / 2) + 0 = n.val; omega)
    rw [en]
    simp only [h0]
  · rename_i h
    have e : (⟨n.val % 2 - 1, by omega⟩ : Fin 1) = 0 := Subsingleton.elim _ _
    rw [e, half_apply]
    refine Finset.sum_congr rfl fun k _ => ?_
    rw [hi_apply, scales_apply]
    have h1 : n.val % 2 = 1 := by omega
    have en : (⟨2 * (n.val / 2) + (1 : Fin 2).val, by show 2 * (n.val / 2) + 1 < 17920; omega⟩ : Fin 17920) = n :=
      Fin.ext (by show 2 * (n.val / 2) + 1 = n.val; omega)
    rw [en]
    simp only [h1]

end Cert.ReferenceIdeal.Reading
-- ==== Proof.Algebraic.lean ====
/- The kernel and the reference compute the same array, wherever the codes decode. -/
module

public import proofs.«01_k».proof.Defs
public import proofs.«01_k».proof.Proof.Whole
public import proofs.«01_k».proof.Proof.Reference
public import proofs.«01_k».proof.Proof.Gen.KernelIdeal.Value

@[expose] public section

set_option maxRecDepth 16384

noncomputable section

namespace Cert.Algebraic

open Cert.Decode Cert.KernelIdeal.Block Cert.KernelIdeal.Whole Cert.ReferenceIdeal.Reading
open Idealize.ShloMosaic Idealize.ShloMosaic.TcCoe Idealize.SL.Sem

/-- The side conditions of the predicate on the codes. -/
theorem preFacts : Cert.Pre_codes_decode.Facts where
  shapeCasts_S17920x160_S8960x2x160 := by decide
  natLt_8_32 := by decide
  bcast_S_S8960x5120 := by decide
  slices_S8960x2x160_S8960x1x160_0_0_0 := by decide
  shapeCasts_S8960x1x160_S8960x160 := by decide
  bcast_S8960x160_S8960x160x32_0_1 := by decide
  shapeCasts_S8960x160x32_S8960x5120 := by decide
  slices_S8960x2x160_S8960x1x160_0_1_0 := by decide

/-- The predicate's test of one code word under one scale word. -/
def test (c s : IVec Cert.ReferenceIdeal.S8960x5120 32) : IVec Cert.ReferenceIdeal.S8960x5120 1 :=
  let m := andi c (splat 7#32)
  let ex := subi (addi s (Host.shrsi m (splat 1#32))) (splat 1#32)
  ori (cmpi .eq m (splat 0#32)) (andi (andi (andi (cmpi .sge s (splat 1#32)) (cmpi .sle s (splat 254#32)))
    (cmpi .sge ex (splat 1#32))) (cmpi .sle ex (splat 254#32)))

theorem pre_eq [Cert.Pre_codes_decode.Facts] (x : FVec Ideal Cert.ReferenceIdeal.S192x1x5120 .bf16)
    (w : IVec Cert.ReferenceIdeal.S8960x5120 8) (s : IVec Cert.ReferenceIdeal.S17920x160 8) :
    Cert.Pre_codes_decode.fn (F := Ideal) x w s = andi (test (lo w) (scales s 0)) (test (hi w) (scales s 1)) := by
  sl_kernel_rfl

theorem test_word : ∀ (v : BitVec 4) (t : BitVec 8),
    (let m := IntOp.andi (v.setWidth 32) 7#32
     let ex := IntOp.subi (IntOp.addi (t.setWidth 32) (IntOp.shrsi .host m 1#32)) 1#32
     IntOp.ori (IntOp.cmpi .eq m 0#32) (IntOp.andi (IntOp.andi (IntOp.andi (IntOp.cmpi .sge (t.setWidth 32) 1#32)
      (IntOp.cmpi .sle (t.setWidth 32) 254#32)) (IntOp.cmpi .sge ex 1#32)) (IntOp.cmpi .sle ex 254#32))) = 1#1 → Decodes v t := by
  decide +kernel

theorem test_decodes (c s : IVec Cert.ReferenceIdeal.S8960x5120 32) (r : Fin 8960) (k : Fin 5120) (v : BitVec 4) (t : BitVec 8)
    (hc : c (ix2 r k) = v.setWidth 32) (hs : s (ix2 r k) = t.setWidth 32) (h : test c s (ix2 r k) = 1#1) : Decodes v t := by
  refine test_word v t ?_
  rw [← hc, ← hs, ← h]
  pointwise [test, splat_apply]

/-- What the precondition says of each channel: every code of it decodes under its scale. -/
theorem decodes_of_pre [Cert.Pre_codes_decode.Facts] (x : FVec Ideal Cert.ReferenceIdeal.S192x1x5120 .bf16)
    (w : IVec Cert.ReferenceIdeal.S8960x5120 8) (s : IVec Cert.ReferenceIdeal.S17920x160 8)
    (h : Cert.Pre_codes_decode.fn (F := Ideal) x w s = fun _ => 1#1) (n : Fin 17920) (k : Fin 5120) :
    Decodes (nib ⟨n.val % 2, by omega⟩ (w (ix2 ⟨n.val / 2, by omega⟩ k))) (s (ix2 n ⟨k.val / 32, by omega⟩)) := by
  have h' : IntOp.andi (test (lo w) (scales s 0) (ix2 ⟨n.val / 2, by omega⟩ k)) (test (hi w) (scales s 1) (ix2 ⟨n.val / 2, by omega⟩ k)) = 1#1 :=
    congrFun ((pre_eq x w s).symm.trans h) _
  obtain ⟨h0, h1⟩ := IntOp.andi_eq_one.mp h'
  obtain e | e := Nat.mod_two_eq_zero_or_one n.val
  · refine test_decodes _ _ _ _ _ _ ?_ ?_ h0
    · simp only [lo_apply, nib, e]
    · rw [scales_apply]
      exact congrArg (fun z => (s (ix2 z ⟨k.val / 32, by omega⟩)).setWidth 32)
        (Fin.ext (by show 2 * (n.val / 2) + 0 = n.val; omega))
  · refine test_decodes _ _ _ _ _ _ ?_ ?_ h1
    · simp only [hi_apply, nib, e]
    · rw [scales_apply]
      exact congrArg (fun z => (s (ix2 z ⟨k.val / 32, by omega⟩)).setWidth 32)
        (Fin.ext (by show 2 * (n.val / 2) + 1 = n.val; omega))

/-- The two results agree: term by term, scaling a decoded code is decoding the code and the scale together. -/
theorem result_eq (x : Vec Ideal Cert.KernelIdeal.S192x1x5120 .bf16) (w : Vec Ideal Cert.KernelIdeal.S8960x5120 .i8)
    (s : Vec Ideal Cert.KernelIdeal.S17920x160 .i8) (h : ∀ (n : Fin 17920) (k : Fin 5120),
      Decodes (nib ⟨n.val % 2, by omega⟩ (w (ix2 ⟨n.val / 2, by omega⟩ k))) (s (ix2 n ⟨k.val / 32, by omega⟩))) :
    result x w s = value (F := Ideal) x w s := by
  funext y
  idx_vars y
  refine Eq.trans ?_ (value_apply x w s y0 y1).symm
  show chanAt x w s y0 y1 = _
  refine Finset.sum_congr rfl fun k _ => ?_
  unfold chanTerm
  exact congrArg (x (ix3 y0 0 k) * ·) (codeVal_mul_scale _ _ (h y1 k))

theorem algebraic : Cert.algebraic_KernelIdeal_ReferenceIdeal_pre_codes_decode (hKernelIdeal := Cert.KernelIdeal.Gen.facts)
    (hReferenceIdeal := Cert.ReferenceIdeal.Gen.facts) (hPre_codes_decode := preFacts) := by
  intro m g m' g' hpre hag
  letI := preFacts
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run _ _ _).mono (fun r hr c => ⟨(hr c).1.trans (arr_eq m c), (hr c).2⟩) (Cert.KernelIdeal.Value.run_blocks (F := Ideal) m g),
    (θ_run _ _ _).mono (fun r hr c => ⟨?_, (hr c).2⟩) (Cert.ReferenceIdeal.Value.run (F := Ideal) m' g')⟩
  refine ((hr c).1.trans (res_eq m' c)).trans ?_
  rw [(hag c).1, (hag c).2.1, (hag c).2.2]
  exact (result_eq _ _ _ (decodes_of_pre _ _ _ (hpre c))).symm

/-- The reference leaves its arguments alone and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m g)

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Algebraic.preFacts,
    fun m ρ _ => Cert.Kernel.Gen.frame m ρ,
    fun m ρ _ => Cert.KernelIdeal.Gen.frame m ρ,
    fun m ρ _ => Cert.KernelIdeal.Gen.frame m ρ,
    fun m ρ _ => Cert.Algebraic.frame_reference m ρ,
    fun m ρ _ => Cert.Algebraic.frame_reference m ρ,
    trivial,
    Cert.Algebraic.algebraic⟩

end Cert.Proof

end
